-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![65536, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 256]⟩ ⟨2, ![65536, 256]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 256]⟩ ⟨2, ![65536, 256]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![65536, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x256 .bf16) (main_arg1 : FVec F S2048x256 .bf16) (main_arg2 : FVec F S2048x256 .bf16) : IVec S_ 1 :=
  let main_cst : FVec F S_ .bf16 := constant S_ .bf16 0xFF80#16
  let main_v0 : FVec F S2048x256 .bf16 := broadcastInDim S2048x256 ![] bcast_S_S2048x256 main_cst
  let main_v1 : IVec S2048x256 1 := cmpf .ogt main_arg0 main_v0
  let main_cst_0 : FVec F S_ .bf16 := constant S_ .bf16 0x7F80#16
  let main_v2 : FVec F S2048x256 .bf16 := broadcastInDim S2048x256 ![] bcast_S_S2048x256 main_cst_0
  let main_v3 : IVec S2048x256 1 := cmpf .olt main_arg0 main_v2
  let main_v4 : IVec S2048x256 1 := andi main_v1 main_v3
  let main_c : IVec S_ 1 := constantI S_ 1 1#1
  let main_v5 : IVec S_ 1 := (fun x v => Host.reduce IntOp.andi x v reducesTo_S2048x256_S_d0_1 h_S_) main_v4 main_c
  let main_cst_1 : FVec F S_ .bf16 := constant S_ .bf16 0xFF80#16
  let main_v6 : FVec F S2048x256 .bf16 := broadcastInDim S2048x256 ![] bcast_S_S2048x256 main_cst_1
  let main_v7 : IVec S2048x256 1 := cmpf .ogt main_arg1 main_v6
  let main_cst_2 : FVec F S_ .bf16 := constant S_ .bf16 0x7F80#16
  let main_v8 : FVec F S2048x256 .bf16 := broadcastInDim S2048x256 ![] bcast_S_S2048x256 main_cst_2
  let main_v9 : IVec S2048x256 1 := cmpf .olt main_arg1 main_v8
  let main_v10 : IVec S2048x256 1 := andi main_v7 main_v9
  let main_c_3 : IVec S_ 1 := constantI S_ 1 1#1
  let main_v11 : IVec S_ 1 := (fun x v => Host.reduce IntOp.andi x v reducesTo_S2048x256_S_d0_1 h_S_) main_v10 main_c_3
  let main_v12 : IVec S_ 1 := andi main_v5 main_v11
  main_v12
-- ==== Pre_finite_qk_ReferenceIdeal.lean ====
abbrev S65536x256 : Shape := ⟨2, ![65536, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel

variable [Facts]

def fn {F : FTy → Type} [FloatOps F] (main_arg0 : FVec F S65536x256 .bf16) (main_arg1 : FVec F S65536x256 .bf16) (main_arg2 : FVec F S65536x256 .bf16) : IVec S_ 1 :=
  let main_cst : FVec F S_ .bf16 := constant S_ .bf16 0xFF80#16
  let main_v0 : FVec F S65536x256 .bf16 := broadcastInDim S65536x256 ![] bcast_S_S65536x256 main_cst
  let main_v1 : IVec S65536x256 1 := cmpf .ogt main_arg0 main_v0
  let main_cst_0 : FVec F S_ .bf16 := constant S_ .bf16 0x7F80#16
  let main_v2 : FVec F S65536x256 .bf16 := broadcastInDim S65536x256 ![] bcast_S_S65536x256 main_cst_0
  let main_v3 : IVec S65536x256 1 := cmpf .olt main_arg0 main_v2
  let main_v4 : IVec S65536x256 1 := andi main_v1 main_v3
  let main_c : IVec S_ 1 := constantI S_ 1 1#1
  let main_v5 : IVec S_ 1 := (fun x v => Host.reduce IntOp.andi x v reducesTo_S65536x256_S_d0_1 h_S_) main_v4 main_c
  let main_cst_1 : FVec F S_ .bf16 := constant S_ .bf16 0xFF80#16
  let main_v6 : FVec F S65536x256 .bf16 := broadcastInDim S65536x256 ![] bcast_S_S65536x256 main_cst_1
  let main_v7 : IVec S65536x256 1 := cmpf .ogt main_arg1 main_v6
  let main_cst_2 : FVec F S_ .bf16 := constant S_ .bf16 0x7F80#16
  let main_v8 : FVec F S65536x256 .bf16 := broadcastInDim S65536x256 ![] bcast_S_S65536x256 main_cst_2
  let main_v9 : IVec S65536x256 1 := cmpf .olt main_arg1 main_v8
  let main_v10 : IVec S65536x256 1 := andi main_v7 main_v9
  let main_c_3 : IVec S_ 1 := constantI S_ 1 1#1
  let main_v11 : IVec S_ 1 := (fun x v => Host.reduce IntOp.andi x v reducesTo_S65536x256_S_d0_1 h_S_) main_v10 main_c_3
  let main_v12 : IVec S_ 1 := andi main_v5 main_v11
  main_v12
-- ==== Kernel.lean ====
abbrev S2048x256 : Shape := ⟨2, ![2048, 256]⟩
abbrev S32 : Shape := ⟨1, ![32]⟩
abbrev S3x2048x512 : Shape := ⟨3, ![3, 2048, 512]⟩
abbrev S_ : Shape := ⟨0, ![]⟩
abbrev S3 : Shape := ⟨1, ![3]⟩
abbrev S1 : Shape := ⟨1, ![1]⟩
abbrev S1x2048x256 : Shape := ⟨3, ![1, 2048, 256]⟩
abbrev S1x2048x512 : Shape := ⟨3, ![1, 2048, 512]⟩
abbrev S2048x512 : Shape := ⟨2, ![2048, 512]⟩
abbrev S2048x2048 : Shape := ⟨2, ![2048, 2048]⟩
abbrev S2048 : Shape := ⟨1, ![2048]⟩
abbrev S2048x1 : Shape := ⟨2, ![2048, 1]⟩

abbrev nBuf : Space → Nat
  | .hbm => 6
  | .vmem => 6
  | .smem => 2
  | _ => 0

abbrev bufTy : (tb : Table) → Fin (tcTables nBuf tb) → BufTy
  | .hbm, ⟨0, _⟩ => ⟨S2048x256, .bf16⟩
  | .hbm, ⟨1, _⟩ => ⟨S2048x256, .bf16⟩
  | .hbm, ⟨2, _⟩ => ⟨S2048x256, .bf16⟩
  | .hbm, ⟨3, _⟩ => ⟨S32, .i32⟩
  | .hbm, ⟨4, _⟩ => ⟨S32, .i32⟩
  | .hbm, ⟨5, _⟩ => ⟨S2048x256, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .f32⟩
  | .local _ .vmem, ⟨4, _⟩ => ⟨S3x2048x512, .bf16⟩
  | .local _ .vmem, ⟨5, _⟩ => ⟨S3x2048x512, .bf16⟩
  | .local _ .smem, ⟨0, _⟩ => ⟨S32, .i32⟩
  | .local _ .smem, ⟨1, _⟩ => ⟨S32, .i32⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 3 14 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_scratch0 : Ref sig .tc := ⟨.vmem, 4, rfl⟩
abbrev cc0_scratch1 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_dev1 (v6 : BitVec 32) : Nat :=
  let c0_i32 : BitVec 32 := 0#32
  let c1_i32_1 : BitVec 32 := 1#32
  let v8 : BitVec 32 := Scalar.muli v6 c1_i32_1
  let v9 : BitVec 32 := Scalar.addi c0_i32 v8
  v9.toNat

def k0_dev2 (v4 : BitVec 32) : Nat :=
  let c0_i32_4 : BitVec 32 := 0#32
  let c1_i32_3 : BitVec 32 := 1#32
  let v10 : BitVec 32 := Scalar.muli v4 c1_i32_3
  let v11 : BitVec 32 := Scalar.addi c0_i32_4 v10
  v11.toNat

def k0_dev3 (v6 : BitVec 32) : Nat :=
  let c0_i32_21 : BitVec 32 := 0#32
  let c1_i32_20 : BitVec 32 := 1#32
  let v28 : BitVec 32 := Scalar.muli v6 c1_i32_20
  let v29 : BitVec 32 := Scalar.addi c0_i32_21 v28
  v29.toNat
def k0_dev4 (v4 : BitVec 32) : Nat :=
  let c0_i32_24 : BitVec 32 := 0#32
  let c1_i32_23 : BitVec 32 := 1#32
  let v30 : BitVec 32 := Scalar.muli v4 c1_i32_23
  let v31 : BitVec 32 := Scalar.addi c0_i32_24 v30
  v31.toNat
def k0_dev5 (v4 : BitVec 32) : Nat :=
  let c0_i32_33 : BitVec 32 := 0#32
  let c1_i32_32 : BitVec 32 := 1#32
  let v36 : BitVec 32 := Scalar.muli v4 c1_i32_32
  let v37 : BitVec 32 := Scalar.addi c0_i32_33 v36
  v37.toNat
def k0_dev6 (v6 : BitVec 32) : Nat :=
  let c0_i32_44 : BitVec 32 := 0#32
  let c1_i32_43 : BitVec 32 := 1#32
  let v44 : BitVec 32 := Scalar.muli v6 c1_i32_43
  let v45 : BitVec 32 := Scalar.addi c0_i32_44 v44
  v45.toNat
def k0_dev7 (v6 : BitVec 32) : Nat :=
  let c0_i32_94 : BitVec 32 := 0#32
  let c1_i32_93 : BitVec 32 := 1#32
  let v92 : BitVec 32 := Scalar.muli v6 c1_i32_93
  let v93 : BitVec 32 := Scalar.addi c0_i32_94 v92
  v93.toNat
def k0_dev8 (v4 : BitVec 32) : Nat :=
  let c0_i32_97 : BitVec 32 := 0#32
  let c1_i32_96 : BitVec 32 := 1#32
  let v94 : BitVec 32 := Scalar.muli v4 c1_i32_96
  let v95 : BitVec 32 := Scalar.addi c0_i32_97 v94
  v95.toNat
@[reducible] def k0_t1_loop : Scf.Loop 32 :=
  let c1_i32_98 : BitVec 32 := 1#32
  let c15_i32 : BitVec 32 := 15#32
  let v96 : BitVec 32 := Scalar.addi c1_i32_98 c15_i32
  let c1_i32_99 : BitVec 32 := 1#32
  ⟨c1_i32_98, v96, c1_i32_99⟩
def k0_off2 (k0_t1 : Fin k0_t1_loop.trips) : Fin 1 → Nat :=
  let c1_i32_98 : BitVec 32 := 1#32
  let c1_i32_99 : BitVec 32 := 1#32
  let arg14 : BitVec 32 := Scf.iv c1_i32_98 c1_i32_99 k0_t1
  let c1_i32_109 : BitVec 32 := 1#32
  let v116 : BitVec 32 := Scalar.addi arg14 c1_i32_109
  let c3_i32_110 : BitVec 32 := 3#32
  let v117 : BitVec 32 := Scalar.remsi v116 c3_i32_110
  ![v117.toNat]
def k0_off3 (k0_t1 : Fin k0_t1_loop.trips) : Fin 3 → Nat :=
  let c1_i32_98 : BitVec 32 := 1#32
  let c1_i32_99 : BitVec 32 := 1#32
  let arg14 : BitVec 32 := Scf.iv c1_i32_98 c1_i32_99 k0_t1
  let c1_i32_109 : BitVec 32 := 1#32
  let v116 : BitVec 32 := Scalar.addi arg14 c1_i32_109
  let c3_i32_110 : BitVec 32 := 3#32
  let v117 : BitVec 32 := Scalar.remsi v116 c3_i32_110
  let c0_i32_115 : BitVec 32 := 0#32
  let c0_i32_116 : BitVec 32 := 0#32
  ![v117.toNat, 0, 0]
def k0_off4 (k0_t1 : Fin k0_t1_loop.trips) : Fin 3 → Nat :=
  let c1_i32_98 : BitVec 32 := 1#32
  let c1_i32_99 : BitVec 32 := 1#32
  let arg14 : BitVec 32 := Scf.iv c1_i32_98 c1_i32_99 k0_t1
  let c3_i32 : BitVec 32 := 3#32
  let v115 : BitVec 32 := Scalar.remsi arg14 c3_i32
  let c0_i32_117 : BitVec 32 := 0#32
  let c0_i32_118 : BitVec 32 := 0#32
  ![v115.toNat, 0, 0]
def k0_dev9 (v4 : BitVec 32) : Nat :=
  let c0_i32_114 : BitVec 32 := 0#32
  let c1_i32_113 : BitVec 32 := 1#32
  let v118 : BitVec 32 := Scalar.muli v4 c1_i32_113
  let v119 : BitVec 32 := Scalar.addi c0_i32_114 v118
  v119.toNat
def k0_cond1 (k0_t1 : Fin k0_t1_loop.trips) : BitVec 1 :=
  let c1_i32_98 : BitVec 32 := 1#32
  let c1_i32_99 : BitVec 32 := 1#32
  let arg14 : BitVec 32 := Scf.iv c1_i32_98 c1_i32_99 k0_t1
  let c15_i32_119 : BitVec 32 := 15#32
  let v126 : BitVec 1 := Scalar.cmpi .slt arg14 c15_i32_119
  let v127 : BitVec 32 := Scalar.extui v126
  let c0_i32_120 : BitVec 32 := 0#32
  let v128 : BitVec 1 := Scalar.cmpi .ne v127 c0_i32_120
  v128

def k0_off5 (k0_t1 : Fin k0_t1_loop.trips) : Fin 1 → Nat :=
  let c1_i32_98 : BitVec 32 := 1#32
  let c1_i32_99 : BitVec 32 := 1#32
  let arg14 : BitVec 32 := Scf.iv c1_i32_98 c1_i32_99 k0_t1
  let c1_i32_109 : BitVec 32 := 1#32
  let v116 : BitVec 32 := Scalar.addi arg14 c1_i32_109
  let c3_i32_110 : BitVec 32 := 3#32
  let v117 : BitVec 32 := Scalar.remsi v116 c3_i32_110
  ![v117.toNat]
def k0_off6 (k0_t1 : Fin k0_t1_loop.trips) : Fin 3 → Nat :=
  let c1_i32_98 : BitVec 32 := 1#32
  let c1_i32_99 : BitVec 32 := 1#32
  let arg14 : BitVec 32 := Scf.iv c1_i32_98 c1_i32_99 k0_t1
  let c1_i32_109 : BitVec 32 := 1#32
  let v116 : BitVec 32 := Scalar.addi arg14 c1_i32_109
  let c3_i32_110 : BitVec 32 := 3#32
  let v117 : BitVec 32 := Scalar.remsi v116 c3_i32_110
  let c0_i32_152 : BitVec 32 := 0#32
  let c0_i32_153 : BitVec 32 := 0#32
  ![v117.toNat, 0, 0]
def k0_off7 (k0_t1 : Fin k0_t1_loop.trips) : Fin 3 → Nat :=
  let c1_i32_98 : BitVec 32 := 1#32
  let c1_i32_99 : BitVec 32 := 1#32
  let arg14 : BitVec 32 := Scf.iv c1_i32_98 c1_i32_99 k0_t1
  let c3_i32 : BitVec 32 := 3#32
  let v115 : BitVec 32 := Scalar.remsi arg14 c3_i32
  let c0_i32_154 : BitVec 32 := 0#32
  let c0_i32_155 : BitVec 32 := 0#32
  ![v115.toNat, 0, 0]
def k0_dev10 (v6 : BitVec 32) : Nat :=
  let c0_i32_151 : BitVec 32 := 0#32
  let c1_i32_150 : BitVec 32 := 1#32
  let v180 : BitVec 32 := Scalar.muli v6 c1_i32_150
  let v181 : BitVec 32 := Scalar.addi c0_i32_151 v180
  v181.toNat
def k0_off8 (k0_t1 : Fin k0_t1_loop.trips) : Fin 3 → Nat :=
  let c1_i32_98 : BitVec 32 := 1#32
  let c1_i32_99 : BitVec 32 := 1#32
  let arg14 : BitVec 32 := Scf.iv c1_i32_98 c1_i32_99 k0_t1
  let c3_i32 : BitVec 32 := 3#32
  let v115 : BitVec 32 := Scalar.remsi arg14 c3_i32
  let v129 : Index := Scalar.indexCast v115
  let c0_121 : Index := 0#32
  let c0_122 : Index := 0#32
  ![v129.toNat, 0, 0]
def k0_cond2 (k0_t1 : Fin k0_t1_loop.trips) : BitVec 1 :=
  let c1_i32_98 : BitVec 32 := 1#32
  let c1_i32_99 : BitVec 32 := 1#32
  let arg14 : BitVec 32 := Scf.iv c1_i32_98 c1_i32_99 k0_t1
  let c15_i32_144 : BitVec 32 := 15#32
  let v171 : BitVec 1 := Scalar.cmpi .slt arg14 c15_i32_144
  let v172 : BitVec 32 := Scalar.extui v171
  let c0_i32_145 : BitVec 32 := 0#32
  let v173 : BitVec 1 := Scalar.cmpi .ne v172 c0_i32_145
  v173

def k0_off9 (k0_t1 : Fin k0_t1_loop.trips) : Fin 3 → Nat :=
  let c1_i32_98 : BitVec 32 := 1#32
  let c1_i32_99 : BitVec 32 := 1#32
  let arg14 : BitVec 32 := Scf.iv c1_i32_98 c1_i32_99 k0_t1
  let c3_i32 : BitVec 32 := 3#32
  let v115 : BitVec 32 := Scalar.remsi arg14 c3_i32
  let c0_i32_149 : BitVec 32 := 0#32
  let c0_i32_150 : BitVec 32 := 0#32
  ![v115.toNat, 0, 0]
def k0_off10 (k0_t1 : Fin k0_t1_loop.trips) : Fin 3 → Nat :=
  let c1_i32_98 : BitVec 32 := 1#32
  let c1_i32_99 : BitVec 32 := 1#32
  let arg14 : BitVec 32 := Scf.iv c1_i32_98 c1_i32_99 k0_t1
  let c1_i32_109 : BitVec 32 := 1#32
  let v116 : BitVec 32 := Scalar.addi arg14 c1_i32_109
  let c3_i32_110 : BitVec 32 := 3#32
  let v117 : BitVec 32 := Scalar.remsi v116 c3_i32_110
  let c0_i32_151 : BitVec 32 := 0#32
  let c0_i32_152 : BitVec 32 := 0#32
  ![v117.toNat, 0, 0]
def k0_off11 (k0_t1 : Fin k0_t1_loop.trips) : Fin 1 → Nat :=
  let c1_i32_98 : BitVec 32 := 1#32
  let c1_i32_99 : BitVec 32 := 1#32
  let arg14 : BitVec 32 := Scf.iv c1_i32_98 c1_i32_99 k0_t1
  let c1_i32_109 : BitVec 32 := 1#32
  let v116 : BitVec 32 := Scalar.addi arg14 c1_i32_109
  let c3_i32_110 : BitVec 32 := 3#32
  let v117 : BitVec 32 := Scalar.remsi v116 c3_i32_110
  ![v117.toNat]
def k0_cond3 (k0_t1 : Fin k0_t1_loop.trips) : BitVec 1 :=
  let c1_i32_98 : BitVec 32 := 1#32
  let c1_i32_99 : BitVec 32 := 1#32
  let arg14 : BitVec 32 := Scf.iv c1_i32_98 c1_i32_99 k0_t1
  let c14_i32 : BitVec 32 := 14#32
  let v174 : BitVec 1 := Scalar.cmpi .slt arg14 c14_i32
  let v175 : BitVec 32 := Scalar.extui v174
  let c0_i32_146 : BitVec 32 := 0#32
  let v176 : BitVec 1 := Scalar.cmpi .ne v175 c0_i32_146
  v176

def k0_dev11 (v6 : BitVec 32) : Nat :=
  let c0_i32_150 : BitVec 32 := 0#32
  let c1_i32_149 : BitVec 32 := 1#32
  let v180 : BitVec 32 := Scalar.muli v6 c1_i32_149
  let v181 : BitVec 32 := Scalar.addi c0_i32_150 v180
  v181.toNat

def k0_chk1 (v6 : BitVec 32) : Prop :=
  ((k0_dev1 v6) < nD) ∧
  ((k0_dev3 v6) < nD) ∧
  ((k0_dev6 v6) < nD) ∧
  ((k0_dev7 v6) < nD) ∧
  (∀ k0_t1 : Fin k0_t1_loop.trips, ∀ (k0_h1 : k0_cond1 k0_t1 = 1#1), (k0_dev10 v6) < nD) ∧
  (∀ k0_t1 : Fin k0_t1_loop.trips, ∀ (k0_h3 : k0_cond3 k0_t1 = 1#1), (k0_dev11 v6) < nD)
theorem k0_dev1_lt : ∀ (v6 : BitVec 32) (k0_hw1 : k0_chk1 v6), (k0_dev1 v6) < nD := fun v6 k0_hw1 => k0_hw1.1
theorem k0_dev3_lt : ∀ (v6 : BitVec 32) (k0_hw1 : k0_chk1 v6), (k0_dev3 v6) < nD := fun v6 k0_hw1 => k0_hw1.2.1
theorem k0_dev6_lt : ∀ (v6 : BitVec 32) (k0_hw1 : k0_chk1 v6), (k0_dev6 v6) < nD := fun v6 k0_hw1 => k0_hw1.2.2.1
theorem k0_dev7_lt : ∀ (v6 : BitVec 32) (k0_hw1 : k0_chk1 v6), (k0_dev7 v6) < nD := fun v6 k0_hw1 => k0_hw1.2.2.2.1
theorem k0_dev10_lt : ∀ (v6 : BitVec 32) (k0_hw1 : k0_chk1 v6) (k0_t1 : Fin k0_t1_loop.trips), ∀ (k0_h1 : k0_cond1 k0_t1 = 1#1), (k0_dev10 v6) < nD := fun v6 k0_hw1 k0_t1 k0_h1 => k0_hw1.2.2.2.2.1 k0_t1 k0_h1
theorem k0_dev11_lt : ∀ (v6 : BitVec 32) (k0_hw1 : k0_chk1 v6) (k0_t1 : Fin k0_t1_loop.trips), ∀ (k0_h3 : k0_cond3 k0_t1 = 1#1), (k0_dev11 v6) < nD := fun v6 k0_hw1 k0_t1 k0_h3 => k0_hw1.2.2.2.2.2 k0_t1 k0_h3

def k0_cond4 (k0_t1 : Fin k0_t1_loop.trips) : BitVec 1 :=
  let c1_i32_98 : BitVec 32 := 1#32
  let c1_i32_99 : BitVec 32 := 1#32
  let arg14 : BitVec 32 := Scf.iv c1_i32_98 c1_i32_99 k0_t1
  let c13_i32 : BitVec 32 := 13#32
  let v177 : BitVec 1 := Scalar.cmpi .slt arg14 c13_i32
  let v178 : BitVec 32 := Scalar.extui v177
  let c0_i32_147 : BitVec 32 := 0#32
  let v179 : BitVec 1 := Scalar.cmpi .ne v178 c0_i32_147
  v179

def k0_dev12 (v4 : BitVec 32) : Nat :=
  let c0_i32_150 : BitVec 32 := 0#32
  let c1_i32_149 : BitVec 32 := 1#32
  let v180 : BitVec 32 := Scalar.muli v4 c1_i32_149
  let v181 : BitVec 32 := Scalar.addi c0_i32_150 v180
  v181.toNat

def k0_chk2 (v4 : BitVec 32) : Prop :=
  ((k0_dev2 v4) < nD) ∧
  ((k0_dev4 v4) < nD) ∧
  ((k0_dev5 v4) < nD) ∧
  ((k0_dev8 v4) < nD) ∧
  ((k0_dev9 v4) < nD) ∧
  (∀ k0_t1 : Fin k0_t1_loop.trips, ∀ (k0_h4 : k0_cond4 k0_t1 = 1#1), (k0_dev12 v4) < nD)
theorem k0_dev2_lt : ∀ (v4 : BitVec 32) (k0_hw2 : k0_chk2 v4), (k0_dev2 v4) < nD := fun v4 k0_hw2 => k0_hw2.1
theorem k0_dev4_lt : ∀ (v4 : BitVec 32) (k0_hw2 : k0_chk2 v4), (k0_dev4 v4) < nD := fun v4 k0_hw2 => k0_hw2.2.1
theorem k0_dev5_lt : ∀ (v4 : BitVec 32) (k0_hw2 : k0_chk2 v4), (k0_dev5 v4) < nD := fun v4 k0_hw2 => k0_hw2.2.2.1
theorem k0_dev8_lt : ∀ (v4 : BitVec 32) (k0_hw2 : k0_chk2 v4), (k0_dev8 v4) < nD := fun v4 k0_hw2 => k0_hw2.2.2.2.1
theorem k0_dev9_lt : ∀ (v4 : BitVec 32) (k0_hw2 : k0_chk2 v4), (k0_dev9 v4) < nD := fun v4 k0_hw2 => k0_hw2.2.2.2.2.1
theorem k0_dev12_lt : ∀ (v4 : BitVec 32) (k0_hw2 : k0_chk2 v4) (k0_t1 : Fin k0_t1_loop.trips), ∀ (k0_h4 : k0_cond4 k0_t1 = 1#1), (k0_dev12 v4) < nD := fun v4 k0_hw2 k0_t1 k0_h4 => k0_hw2.2.2.2.2.2 k0_t1 k0_h4

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S65536x256 : Shape := ⟨2, ![65536, 256]⟩
abbrev S256x65536 : Shape := ⟨2, ![256, 65536]⟩
abbrev S65536x65536 : Shape := ⟨2, ![65536, 65536]⟩
abbrev S_ : Shape := ⟨0, ![]⟩
abbrev S65536 : Shape := ⟨1, ![65536]⟩
abbrev S65536x1 : Shape := ⟨2, ![65536, 1]⟩

abbrev nBuf : Space → Nat
  | .hbm => 24
  | .vmem => 0
  | .smem => 0
  | _ => 0

abbrev bufTy : (tb : Table) → Fin (tcTables nBuf tb) → BufTy
  | .hbm, ⟨0, _⟩ => ⟨S65536x256, .bf16⟩
  | .hbm, ⟨1, _⟩ => ⟨S65536x256, .bf16⟩
  | .hbm, ⟨2, _⟩ => ⟨S65536x256, .bf16⟩
  | .hbm, ⟨3, _⟩ => ⟨S65536x256, .f32⟩
  | .hbm, ⟨4, _⟩ => ⟨S65536x256, .f32⟩
  | .hbm, ⟨5, _⟩ => ⟨S65536x256, .f32⟩
  | .hbm, ⟨6, _⟩ => ⟨S256x65536, .f32⟩
  | .hbm, ⟨7, _⟩ => ⟨S65536x65536, .f32⟩
  | .hbm, ⟨8, _⟩ => ⟨S_, .f32⟩
  | .hbm, ⟨9, _⟩ => ⟨S_, .f32⟩
  | .hbm, ⟨10, _⟩ => ⟨S65536x65536, .f32⟩
  | .hbm, ⟨11, _⟩ => ⟨S65536x65536, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S65536x65536, .f32⟩
  | .hbm, ⟨16, _⟩ => ⟨S65536x65536, .f32⟩
  | .hbm, ⟨17, _⟩ => ⟨S65536x65536, .f32⟩
  | .hbm, ⟨18, _⟩ => ⟨S_, .f32⟩
  | .hbm, ⟨19, _⟩ => ⟨S65536, .f32⟩
  | .hbm, ⟨20, _⟩ => ⟨S65536x1, .f32⟩
  | .hbm, ⟨21, _⟩ => ⟨S65536x65536, .f32⟩
  | .hbm, ⟨22, _⟩ => ⟨S65536x65536, .f32⟩
  | .hbm, ⟨23, _⟩ => ⟨S65536x256, .f32⟩
  | _, _ => ⟨S65536x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Ring.lean ====
/-
  The ring the kernel runs on: who follows whom, the two scratch buffers' slots, the semaphores by their part in the
  protocol, and the words of the two tables. Directions are told apart by a Boolean: `false` is the forward stream
  (towards the next device), `true` the reverse stream (towards the previous one).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Pipeline.Value
public import Idealize.ShloMosaic.Lib.Rounds
public import Idealize.ShloMosaic.Lib.Rounds.Family
public import Idealize.ShloMosaic.Lib.Memref
public import Idealize.ShloMosaic.Lib.MemrefSat
public import Idealize.ShloMosaic.Lib.Exec
public import Idealize.ShloMosaic.Lib.Scf
public import Idealize.ShloMosaic.Lib.StableHlo
public import Idealize.ShloMosaic.Lib.Tactic
public import Idealize.ShloMosaic.PureOps

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Who follows whom -/

/-- The device after `c` on the ring, as the first table says. -/
def nextTab : Fin 32 → Fin 32 :=
  ![3, 0, 1, 4, 7, 2, 5, 15, 16, 10, 13, 8, 11, 14, 6, 12, 19, 9, 17, 20, 23, 18, 21, 31, 25, 26, 29, 24, 27, 30, 22, 28]
/-- The device before `c` on the ring, as the second table says. -/
def prevTab : Fin 32 → Fin 32 :=
  ![1, 2, 5, 0, 3, 6, 14, 4, 11, 17, 9, 12, 15, 10, 13, 7, 8, 18, 21, 16, 19, 22, 30, 20, 27, 24, 25, 28, 31, 26, 29, 23]

/-- Where direction `d` sends to: the next device for the forward stream, the previous one for the reverse stream. -/
def nx (d : Bool) (c : Dev nD) : Dev nD := cond d (prevTab c) (nextTab c)
/-- Where direction `d` receives from. -/
abbrev pv (d : Bool) (c : Dev nD) : Dev nD := nx (!d) c

theorem nx_pv (d : Bool) (c : Dev nD) : nx d (pv d c) = c := by revert d c; decide +kernel
theorem pv_nx (d : Bool) (c : Dev nD) : pv d (nx d c) = c := by revert d c; decide +kernel
/-- One step in direction `d` permutes the devices. -/
def turn (d : Bool) : Dev nD ≃ Dev nD := ⟨nx d, pv d, pv_nx d, nx_pv d⟩

/-- The devices `16` steps back along the forward stream and `15` steps back along the reverse stream: all `32`, each
    once. -/
theorem sources_forward (c : Dev nD) : (Finset.univ : Finset (Fin 17)).image (fun h => (pv false)^[h.val] c)
    ∪ (Finset.univ : Finset (Fin 15)).image (fun h => (pv true)^[h.val + 1] c) = Finset.univ := by
  revert c; decide +kernel

/-! ## Hops, slots and semaphores -/

/-- How many copies direction `d` makes: sixteen forward, fifteen back. -/
def H (d : Bool) : ℕ := cond d 15 16

/-- Direction `d`'s scratch buffer, whole. -/
def scrM (d : Bool) : Memref sig .tc .vmem S3x2048x512 .bf16 := cond d (Memref.whole cc0_scratch1) (Memref.whole cc0_scratch0)

/-- The offsets of slot `n`, counted modulo three. -/
def off3 (n : ℕ) : Fin 3 → ℕ := ![n % 3, 0, 0]
theorem inb3 (n : ℕ) (a : Fin 3) : off3 n a + S1x2048x512.size a ≤ S3x2048x512.size a := by
  have := Nat.mod_lt n (show 3 > 0 by decide)
  fin_cases a
  · show n % 3 + 1 ≤ 3; omega
  · exact Nat.le_refl 2048
  · exact Nat.le_refl 512
/-- Slot `n` as the rectangle of the buffer it is. -/
abbrev slotR (n : ℕ) : Rect S3x2048x512 := Rect.unit (s := S3x2048x512) (off3 n) S1x2048x512.size (inb3 n)
/-- Slot `n` of direction `d`'s buffer. -/
def slot (d : Bool) (n : ℕ) : Memref sig .tc .vmem S2048x512 .bf16 :=
  ((scrM d).slice (slotR n) (fun _ => rfl)).squeeze S2048x512 squeezes_S1x2048x512_S2048x512

theorem off3_congr {n n' : ℕ} (h : n % 3 = n' % 3) : off3 n = off3 n' := by unfold off3; rw [h]
theorem slot_congr (d : Bool) {n n' : ℕ} (h : n % 3 = n' % 3) : slot d n = slot d n' := by
  unfold slot slotR
  have e := off3_congr h
  have : ∀ (o : Fin 3 → ℕ) (i : ∀ a, o a + S1x2048x512.size a ≤ S3x2048x512.size a), o = off3 n' →
      ((scrM d).slice (Rect.unit (s := S3x2048x512) o S1x2048x512.size i) (fun _ => rfl)).squeeze S2048x512 squeezes_S1x2048x512_S2048x512
        = ((scrM d).slice (Rect.unit (s := S3x2048x512) (off3 n') S1x2048x512.size (inb3 n')) (fun _ => rfl)).squeeze S2048x512 squeezes_S1x2048x512_S2048x512 := by
    intro o i h; subst h; rfl
  exact this _ _ e
theorem slot_add3 (d : Bool) (n : ℕ) : slot d (n + 3) = slot d n := slot_congr d (by omega)

/-- A slot the program names by its offsets is that slot. -/
theorem slot_of_off (d : Bool) (n : ℕ) (o : Fin 3 → ℕ) (i : ∀ a, o a + S1x2048x512.size a ≤ S3x2048x512.size a) (h : o = off3 n) :
    ((scrM d).slice (Rect.unit (s := S3x2048x512) o S1x2048x512.size i) (fun _ => rfl)).squeeze S2048x512 squeezes_S1x2048x512_S2048x512 = slot d n := by
  subst h; rfl

/-- Slot `n`'s number, modulo three. -/
def m3 (n : ℕ) : Fin 3 := ⟨n % 3, Nat.mod_lt n (by decide)⟩

theorem m3_congr {n n' : ℕ} (h : n % 3 = n' % 3) : m3 n = m3 n' := Fin.ext h

/-- The barrier semaphore. -/
abbrev barS : Sem sig := 2
/-- Direction `d`'s credit semaphore: counts the slots of the device it sends to that are known to be free. -/
def crS (d : Bool) : Sem sig := cond d 1 0
/-- Direction `d`'s semaphore for its copies leaving. -/
def sndS (d : Bool) : DmaSem sig := cond d 10 6
/-- Direction `d`'s semaphore for slot `n` (modulo three) being filled. -/
def rcvS (d : Bool) (n : ℕ) : DmaSem sig := cond d ![11, 12, 13] ![7, 8, 9] (m3 n)

theorem rcvS_congr (d : Bool) {n n' : ℕ} (h : n % 3 = n' % 3) : rcvS d n = rcvS d n' := by
  unfold rcvS; rw [m3_congr h]
theorem rcvS_add3 (d : Bool) (n : ℕ) : rcvS d (n + 3) = rcvS d n := rcvS_congr d (by omega)

/-- The part a semaphore plays. -/
inductive Part where
  | bar | cr (d : Bool) | snd (d : Bool) | rcv (d : Bool) (s : Fin 3) | other
  deriving DecidableEq

/-- The part of each of the kernel's semaphores. -/
def part : SemLoc sig → Part
  | .reg s => ![.cr false, .cr true, .bar] s
  | .dma s => ![.other, .other, .other, .other, .other, .other, .snd false, .rcv false 0, .rcv false 1, .rcv false 2,
      .snd true, .rcv true 0, .rcv true 1, .rcv true 2] s

theorem part_bar : part (.reg barS) = .bar := rfl
theorem part_cr (d : Bool) : part (.reg (crS d)) = .cr d := by cases d <;> rfl
theorem part_snd (d : Bool) : part (.dma (sndS d)) = .snd d := by cases d <;> rfl
theorem part_rcv (d : Bool) (n : ℕ) : part (.dma (rcvS d n)) = .rcv d (m3 n) := by
  have : ∀ s : Fin 3, part (.dma ((cond d ![11, 12, 13] ![7, 8, 9] : Fin 3 → DmaSem sig) s)) = .rcv d s := by
    revert d; decide
  exact this _

/-- The cells by device. -/
abbrev barC (c : Dev nD) : GSem nD τ sig := ((c : Thread nD τ), .reg barS)
abbrev crC (d : Bool) (c : Dev nD) : GSem nD τ sig := ((c : Thread nD τ), .reg (crS d))
abbrev sndC (d : Bool) (c : Dev nD) : GSem nD τ sig := ((c : Thread nD τ), .dma (sndS d))
abbrev rcvC (d : Bool) (n : ℕ) (c : Dev nD) : GSem nD τ sig := ((c : Thread nD τ), .dma (rcvS d n))

theorem rcvC_add3 (d : Bool) (n : ℕ) (c : Dev nD) : rcvC d (n + 3) c = rcvC d n c := by unfold rcvC; rw [rcvS_add3]

/-- What one copy of a slot counts on a semaphore. -/
def N : ℕ := (slot false 0).view.dmaCredit
theorem N_pos : 0 < N := View.dmaCredit_pos _ (by decide)
theorem credit_slot (d : Bool) (n : ℕ) : (slot d n).view.dmaCredit = N := by cases d <;> rfl

/-- The scoped semaphores of the kernel's own, in the order the launch lists them: the credits, the copies leaving, the
    slots being filled. -/
def osem : Fin 10 → SemLoc sig :=
  ![.reg (crS false), .reg (crS true), .dma (sndS false), .dma (sndS true), .dma (rcvS false 0), .dma (rcvS false 1),
    .dma (rcvS false 2), .dma (rcvS true 0), .dma (rcvS true 1), .dma (rcvS true 2)]

/-! ## The block of keys and values -/

/-- Keys and values of a device side by side. -/
def kv (k v : S2048x256.Idx → Elt F .bf16) : S2048x512.Idx → Elt F .bf16 := fun j =>
  if h : (j 1).val < 256 then k (fun a => match a with | 0 => j 0 | 1 => ⟨(j 1).val, h⟩)
  else v (fun a => match a with | 0 => j 0 | 1 => ⟨(j 1).val - 256, by have : (j 1).val < 512 := (j 1).isLt; show (j 1).val - 256 < 256; omega⟩)

end Cert.Ring
-- ==== Proof.Schedule.lean ====
/-
  The schedule of the kernel's semaphores: what is paid on which cell in which round, by how much, and what comes with it;
  what a device owes; the levels that keep the waits from waiting for one another.
-/
module

public import proofs.«01_k».proof.Proof.Ring

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × URounds (GSem nD τ sig) ℕ

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := embR

/-- The block of keys and values every device starts with. -/
abbrev Blocks (F : FTy → Type) : Type := Dev nD → S2048x512.Idx → Elt F .bf16

variable (KV : Blocks F)

/-- What direction `d` holds on device `c` after `n` hops: the block of the device `n` steps back. -/
def blk (d : Bool) (n : ℕ) (c : Dev nD) : S2048x512.Idx → Elt F .bf16 := KV ((pv d)^[n] c)

theorem blk_zero (d : Bool) (c : Dev nD) : blk KV d 0 c = KV c := rfl
theorem blk_hop (d : Bool) (n : ℕ) (c : Dev nD) : blk KV d (n + 1) (nx d c) = blk KV d n c := by
  unfold blk; rw [Function.iterate_succ_apply, pv_nx]

/-! ## Payloads -/

/-- A slot at contents not named. -/
abbrev anySlot (d : Bool) (n : ℕ) (c : Dev nD) : sProp 𝕄 :=
  iprop(∃ X, owns (c : Thread nD τ) (slot d n) fullShare X)

/-- Whether hop `h` of direction `d` also hands back a slot of the other direction. -/
abbrev Carries (d : Bool) (h : ℕ) : Prop := 1 ≤ h ∧ h + 1 < H (!d)

/-- A neighbour's slot, free, with the round of its cell it is to be filled in. -/
def peer (d : Bool) (n : ℕ) (c' : Dev nD) (r : ℕ) : sProp 𝕄 :=
  iprop(anySlot d n c' ∗ reached ER (rcvC d n c') r)

/-- What hop `h` of direction `d` brings to device `c`, beside the block. -/
def backPay (d : Bool) (h : ℕ) (c : Dev nD) : sProp 𝕄 :=
  if Carries d h then peer (!d) (h + 2) (pv d c) ((h + 1) / 3) else iprop(emp)

/-- What hop `h` of direction `d` brings to device `c`. -/
def rcvPay (d : Bool) (h : ℕ) (c : Dev nD) : sProp 𝕄 :=
  iprop(owns (c : Thread nD τ) (slot d (h + 1)) fullShare (blk KV d (h + 1) c) ∗ backPay d h c)

/-- What comes back when hop `h` of direction `d` has left device `c`: the half of the slot the copy read. -/
def sndPay (d : Bool) (h : ℕ) (c : Dev nD) : sProp 𝕄 :=
  owns (c : Thread nD τ) (slot d h) fullShare.left (blk KV d h c)

/-- What a neighbour's barrier signal brings to `c`: the neighbour's two free slots of the direction that sends to it,
    its cells open. -/
def barPay (d : Bool) (c : Dev nD) : sProp 𝕄 :=
  iprop(peer d 1 (nx d c) 0 ∗ peer d 2 (nx d c) 0 ∗ reached ER (rcvC d 0 (nx d c)) 0 ∗ reached ER (crC (!d) (nx d c)) 0)

/-! ## The schedule -/

/-- The hop that fills slot `s` in round `r`. -/
abbrev hopOf (s : Fin 3) (r : ℕ) : ℕ := 3 * r + (s.val + 2) % 3

def dutiesOf : Part → ℕ → Finset ℕ
  | .bar, r => if r = 0 then {0, 1} else ∅
  | .cr d, r => if r = 0 then insert 0 (Finset.Ico 2 (H d)) else ∅
  | .snd d, r => if r < H d then {0} else ∅
  | .rcv d s, r => if hopOf s r < H d then {0} else ∅
  | .other, _ => ∅

def amountOf' : Part → ℕ → ℕ
  | .bar, _ => 1
  | .cr _, d => if d = 0 then 2 else 1
  | .snd _, _ => N
  | .rcv _ _, _ => N
  | .other, _ => 1

def payOf (c : Dev nD) : Part → ℕ → ℕ → sProp 𝕄
  | .bar, _, i => if i = 0 then barPay false c else barPay true c
  | .cr _, _, _ => iprop(emp)
  | .snd d, r, _ => sndPay KV d r c
  | .rcv d s, r, _ => rcvPay KV d (hopOf s r) c
  | .other, _, _ => iprop(emp)

/-- The schedule. A barrier cell is paid one unit by each neighbour. A credit cell is paid two units at the start and one
    more per later hop, all of one round. A cell of copies leaving is paid once a hop, a cell of a slot being filled once
    every third hop. -/
def ringRd : Rounds.Schedule (GSem nD τ sig) ℕ 𝕄 where
  duties g r := if g.1.2 = .tc then dutiesOf (part g.2) r else ∅
  unitless _ := False
  amount g _ d := amountOf' (part g.2) d
  payload g r d := payOf KV g.1.1 (part g.2) r d
  amount_pos g _ d _ := by
    unfold amountOf'; split
    · exact Nat.one_pos
    · split <;> decide
    · exact N_pos
    · exact N_pos
    · exact Nat.one_pos

instance storable_ite {p : Prop} [Decidable p] (P Q : sProp 𝕄) [BI.Storable (upEmb : UEmb _ 𝕄) P] [BI.Storable (upEmb : UEmb _ 𝕄) Q] :
    BI.Storable (upEmb : UEmb _ 𝕄) (if p then P else Q) := by split <;> infer_instance

instance peer_storable (d : Bool) (n : ℕ) (c' : Dev nD) (r : ℕ) : BI.Storable (upEmb : UEmb _ 𝕄) (peer (F := F) d n c' r) := by
  unfold peer; infer_instance
instance backPay_storable (d : Bool) (h : ℕ) (c : Dev nD) : BI.Storable (upEmb : UEmb _ 𝕄) (backPay (F := F) d h c) := by
  unfold backPay; infer_instance
instance rcvPay_storable (d : Bool) (h : ℕ) (c : Dev nD) : BI.Storable (upEmb : UEmb _ 𝕄) (rcvPay KV d h c) := by
  unfold rcvPay; infer_instance
instance sndPay_storable (d : Bool) (h : ℕ) (c : Dev nD) : BI.Storable (upEmb : UEmb _ 𝕄) (sndPay KV d h c) := by
  unfold sndPay; infer_instance
instance barPay_storable (d : Bool) (c : Dev nD) : BI.Storable (upEmb : UEmb _ 𝕄) (barPay (F := F) d c) := by
  unfold barPay; infer_instance

instance ringRd_payload_storable (g : GSem nD τ sig) (r : ℕ) (d : ℕ) :
    BI.Storable (upEmb : UEmb _ 𝕄) ((ringRd KV).payload g r d) := by
  show BI.Storable upEmb (payOf KV g.1.1 (part g.2) r d)
  unfold payOf; split <;> infer_instance

theorem ringRd_duties (c : Dev nD) (sm : SemLoc sig) (r : ℕ) :
    (ringRd KV).duties ((c : Thread nD τ), sm) r = dutiesOf (part sm) r := by
  dsimp only [ringRd]; exact if_pos rfl
theorem ringRd_amount (c : Dev nD) (sm : SemLoc sig) (r i : ℕ) :
    (ringRd KV).amount ((c : Thread nD τ), sm) r i = amountOf' (part sm) i := rfl
theorem ringRd_payload (c : Dev nD) (sm : SemLoc sig) (r i : ℕ) :
    (ringRd KV).payload ((c : Thread nD τ), sm) r i = payOf KV c (part sm) r i := rfl

section Sched

variable (d : Bool) (n : ℕ) (c : Dev nD)

theorem hop_rcv (h : ℕ) : hopOf (m3 (h + 1)) (h / 3) = h := by
  show 3 * (h / 3) + ((h + 1) % 3 + 2) % 3 = h; omega

theorem duties_bar : (ringRd KV).duties (barC c) 0 = {0, 1} := by
  rw [ringRd_duties, part_bar]; rfl
theorem duties_cr : (ringRd KV).duties (crC d c) 0 = insert 0 (Finset.Ico 2 (H d)) := by
  rw [ringRd_duties, part_cr]; rfl
theorem duties_snd (h : n < H d) : (ringRd KV).duties (sndC d c) n = {0} := by
  rw [ringRd_duties, part_snd]; exact if_pos h
theorem duties_rcv (h : n < H d) : (ringRd KV).duties (rcvC d (n + 1) c) (n / 3) = {0} := by
  rw [ringRd_duties, part_rcv]; exact if_pos (by rw [hop_rcv]; exact h)

theorem later_bar : ∀ r, 1 ≤ r → (ringRd KV).duties (barC c) r = ∅ := fun r hr => by
  rw [ringRd_duties, part_bar]; exact if_neg (by omega)
theorem later_cr : ∀ r, 1 ≤ r → (ringRd KV).duties (crC d c) r = ∅ := fun r hr => by
  rw [ringRd_duties, part_cr]; exact if_neg (by omega)
theorem later_snd : ∀ r, H d ≤ r → (ringRd KV).duties (sndC d c) r = ∅ := fun r hr => by
  rw [ringRd_duties, part_snd]; exact if_neg (by omega)
theorem later_rcv (R : ℕ) (hR : H d ≤ hopOf (m3 n) R) : ∀ r, R ≤ r → (ringRd KV).duties (rcvC d n c) r = ∅ := fun r hr => by
  rw [ringRd_duties, part_rcv]
  exact if_neg (by simp only [hopOf] at hR ⊢; omega)

theorem amount_bar (i : ℕ) : (ringRd KV).amount (barC c) 0 i = 1 := by
  rw [ringRd_amount, part_bar]; rfl
theorem amount_cr_zero : (ringRd KV).amount (crC d c) 0 0 = 2 := by
  rw [ringRd_amount, part_cr]; rfl
theorem amount_cr (i : ℕ) (hi : i ≠ 0) : (ringRd KV).amount (crC d c) 0 i = 1 := by
  rw [ringRd_amount, part_cr]; exact if_neg hi
theorem amount_snd (r i : ℕ) : (ringRd KV).amount (sndC d c) r i = N := by
  rw [ringRd_amount, part_snd]; rfl
theorem amount_rcv (r i : ℕ) : (ringRd KV).amount (rcvC d n c) r i = N := by
  rw [ringRd_amount, part_rcv]; rfl

theorem expect_bar : (ringRd KV).expect (barC c) 0 = 2 := by
  unfold Schedule.expect Schedule.amountOf; rw [duties_bar]
  rw [Finset.sum_congr rfl fun i _ => amount_bar KV c i]; rfl
theorem expect_cr : (ringRd KV).expect (crC d c) 0 = H d := by
  unfold Schedule.expect Schedule.amountOf; rw [duties_cr, Finset.sum_insert (by simp), amount_cr_zero,
    Finset.sum_congr rfl fun i hi => amount_cr KV d c i (by have := (Finset.mem_Ico.mp hi).1; omega)]
  cases d <;> rfl
theorem expect_snd (h : n < H d) : (ringRd KV).expect (sndC d c) n = N := by
  unfold Schedule.expect Schedule.amountOf; rw [duties_snd KV d n c h, Finset.sum_singleton, amount_snd]
theorem expect_rcv (h : n < H d) : (ringRd KV).expect (rcvC d (n + 1) c) (n / 3) = N := by
  unfold Schedule.expect Schedule.amountOf; rw [duties_rcv KV d n c h, Finset.sum_singleton, amount_rcv]

theorem payload_bar_zero : (ringRd KV).payload (barC c) 0 0 = barPay false c := by
  rw [ringRd_payload, part_bar]; rfl
theorem payload_bar_one : (ringRd KV).payload (barC c) 0 1 = barPay true c := by
  rw [ringRd_payload, part_bar]; rfl
theorem payload_cr (r i : ℕ) : (ringRd KV).payload (crC d c) r i = (iprop(emp) : sProp 𝕄) := by
  rw [ringRd_payload, part_cr]; rfl
theorem payload_snd (i : ℕ) : (ringRd KV).payload (sndC d c) n i = sndPay KV d n c := by
  rw [ringRd_payload, part_snd]; rfl
theorem payload_rcv (i : ℕ) : (ringRd KV).payload (rcvC d (n + 1) c) (n / 3) i = rcvPay KV d n c := by
  rw [ringRd_payload, part_rcv]; show rcvPay KV d (hopOf (m3 (n + 1)) (n / 3)) c = _; rw [hop_rcv]

theorem rest_bar : bigSep ((ringRd KV).duties (barC c) 0 \ ∅) (fun i => (ringRd KV).payload (barC c) 0 i)
    = (iprop(barPay false c ∗ barPay true c) : sProp 𝕄) := by
  rw [Finset.sdiff_empty, duties_bar, bigSep_insert (by decide), bigSep_singleton, payload_bar_zero, payload_bar_one]; rfl
theorem rest_snd (h : n < H d) : bigSep ((ringRd KV).duties (sndC d c) n \ ∅) (fun i => (ringRd KV).payload (sndC d c) n i)
    = sndPay KV d n c := by
  rw [Finset.sdiff_empty, duties_snd KV d n c h, bigSep_singleton, payload_snd]
theorem rest_rcv (h : n < H d) : bigSep ((ringRd KV).duties (rcvC d (n + 1) c) (n / 3) \ ∅)
    (fun i => (ringRd KV).payload (rcvC d (n + 1) c) (n / 3) i) = rcvPay KV d n c := by
  rw [Finset.sdiff_empty, duties_rcv KV d n c h, bigSep_singleton, payload_rcv]

end Sched

theorem Ico_insert {a b : ℕ} (h : a < b) : Finset.Ico a b = insert a (Finset.Ico (a + 1) b) := by
  ext x; simp only [Finset.mem_Ico, Finset.mem_insert]; omega

/-! ## What a device owes -/

/-- The fillings hops `n` and later of direction `d` owe the device they go to. -/
def fillOwed (d : Bool) (n : ℕ) (c : Dev nD) : CellTallies nD τ sig ℕ :=
  ∑ i ∈ Finset.Ico n (H d), tallyAt (rcvC d (i + 1) (nx d c)) i N
/-- The single credits for hops `n` and later of direction `d`, owed to the device they come from. -/
def crOwed (d : Bool) (n : ℕ) (c : Dev nD) : CellTallies nD τ sig ℕ :=
  ∑ i ∈ Finset.Ico n (H d), tallyAt (crC d (pv d c)) i 1

theorem fillOwed_step (d : Bool) (n : ℕ) (c : Dev nD) (h : n < H d) :
    fillOwed d n c = fillOwed d (n + 1) c + tallyAt (rcvC d (n + 1) (nx d c)) n N := by
  unfold fillOwed; rw [Ico_insert h, Finset.sum_insert (by simp), add_comm]
theorem crOwed_step (d : Bool) (n : ℕ) (c : Dev nD) (h : n < H d) :
    crOwed d n c = crOwed d (n + 1) c + tallyAt (crC d (pv d c)) n 1 := by
  unfold crOwed; rw [Ico_insert h, Finset.sum_insert (by simp), add_comm]
theorem fillOwed_end (d : Bool) (n : ℕ) (c : Dev nD) (h : H d ≤ n) : fillOwed d n c = 0 := by
  unfold fillOwed; rw [Finset.Ico_eq_empty_of_le h]; rfl
theorem crOwed_end (d : Bool) (n : ℕ) (c : Dev nD) (h : H d ≤ n) : crOwed d n c = 0 := by
  unfold crOwed; rw [Finset.Ico_eq_empty_of_le h]; rfl

/-- What is owed before hop `n` of each direction. -/
def owedAt (n n' : ℕ) (c : Dev nD) : CellTallies nD τ sig ℕ :=
  fillOwed false n c + fillOwed true n' c + crOwed false (n + 2) c + crOwed true (n' + 2) c

/-- What a device owes at the start: a unit on each neighbour's barrier cell, two credits to each, and the rest. -/
def owed₀ (c : Dev nD) : CellTallies nD τ sig ℕ :=
  owedAt 0 0 c + tallyAt (crC true (nx false c)) 0 2 + tallyAt (crC false (nx true c)) 0 2
    + tallyAt (barC (nx false c)) 0 1 + tallyAt (barC (nx true c)) 0 1

/-! ## Levels -/

def L (g : GSem nD τ sig) : Finset ℕ := if g.1.2 = .tc then Finset.range 17 else ∅
/-- Barrier cells at 1; a credit for hop `i` at `2 i + 2`, its filling at `2 i + 3`; the rest at 0. -/
def lvOf : Part → ℕ → ℕ
  | .bar, _ => 1
  | .cr _, i => 2 * i + 2
  | .snd _, _ => 0
  | .rcv _ _, i => 2 * i + 3
  | .other, _ => 0
def lv (g : GSem nD τ sig) (i : ℕ) : ℕ := lvOf (part g.2) i

theorem L_of_ne (g : GSem nD τ sig) (h : g.1.2 ≠ .tc) : L g = ∅ := if_neg h
theorem L_tc (c : Dev nD) (sm : SemLoc sig) : L ((c : Thread nD τ), sm) = Finset.range 17 := if_pos rfl

/-- Everything owed lies above level `n`. -/
def Above (n : ℕ) (O : CellTallies nD τ sig ℕ) : Prop := ∀ g i, 0 < O g i → i ∈ L g ∧ n < lv g i

theorem Above.zero (n : ℕ) : Above n 0 := fun g i h => absurd h (Nat.lt_irrefl 0)
theorem Above.add {n : ℕ} {O O' : CellTallies nD τ sig ℕ} (h : Above n O) (h' : Above n O') : Above n (O + O') := fun g i hg => by
  rw [Pi.add_apply, Finsupp.add_apply] at hg
  by_cases h0 : 0 < O g i
  · exact h g i h0
  · exact h' g i (by omega)
theorem Above.tally {n : ℕ} (c : Dev nD) (sm : SemLoc sig) (i k : ℕ) (hi : i < 17) (hl : n < lvOf (part sm) i) :
    Above n (tallyAt ((c : Thread nD τ), sm) i k) := fun g j hg => by
  rw [tallyAt_apply] at hg
  by_cases h : g = ((c : Thread nD τ), sm) ∧ j = i
  · obtain ⟨rfl, rfl⟩ := h
    exact ⟨by rw [L_tc]; exact Finset.mem_range.mpr hi, hl⟩
  · rw [if_neg h] at hg; exact absurd hg (Nat.lt_irrefl 0)
theorem Above.sum {n : ℕ} (S : Finset ℕ) (f : ℕ → CellTallies nD τ sig ℕ) (h : ∀ i ∈ S, Above n (f i)) : Above n (∑ i ∈ S, f i) := by
  classical
  induction S using Finset.induction_on with
  | empty => exact Above.zero n
  | insert a S ha ih =>
    rw [Finset.sum_insert ha]
    exact (h a (Finset.mem_insert_self _ _)).add (ih fun i hi => h i (Finset.mem_insert_of_mem hi))

theorem H_le (d : Bool) : H d ≤ 16 := by cases d <;> decide

theorem Above.fill {l : ℕ} (d : Bool) (n : ℕ) (c : Dev nD) (h : l < 2 * n + 3) : Above l (fillOwed d n c) :=
  Above.sum _ _ fun i hi => Above.tally _ _ _ _ (by have := H_le d; have := (Finset.mem_Ico.mp hi).2; omega)
    (by rw [part_rcv]; show l < 2 * i + 3; have := (Finset.mem_Ico.mp hi).1; omega)
theorem Above.cr {l : ℕ} (d : Bool) (n : ℕ) (c : Dev nD) (h : l < 2 * n + 2) : Above l (crOwed d n c) :=
  Above.sum _ _ fun i hi => Above.tally _ _ _ _ (by have := H_le d; have := (Finset.mem_Ico.mp hi).2; omega)
    (by rw [part_cr]; show l < 2 * i + 2; have := (Finset.mem_Ico.mp hi).1; omega)

/-- A device may wait on a cell of its own whose level does not exceed `n` while all it owes lies above `n`. -/
theorem mayWait {n : ℕ} {O : CellTallies nD τ sig ℕ} (c : Dev nD) (sm : SemLoc sig) (i : ℕ) (hi : i < 17)
    (hl : lvOf (part sm) i ≤ n) (hO : Above n O) : (levAts L lv : sProp 𝕄) ⊢ MayWait (c : Thread nD τ) sm i O :=
  MayOwe.of_cut (L := L) (lev := lv) n
    (fun p hp => by rw [Finset.mem_singleton.mp hp, L_tc]; exact Finset.mem_range.mpr hi)
    (fun g u hg => (hO g u hg).1)
    (fun p hp => by rw [Finset.mem_singleton.mp hp]; exact hl)
    (fun g u hg => (hO g u hg).2)

end Cert.Ring
-- ==== Proof.Steps.lean ====
/-
  The kernel's steps, one lemma each, the same for both directions: waiting for a credit, starting a copy, waiting for it to
  have left and for one to have come in, giving credit, the barrier, loading a slot.
-/
module

public import proofs.«01_k».proof.Proof.Schedule
public import Idealize.SL.BI.BigOpNat

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- No loop of the kernel is given up before it ends. -/
abbrev 𝒱₀ : Variants := Variants.none

variable (KV : Blocks F)

/-! ## The context every step is taken in -/

/-- The cells with a schedule: the barrier cells and the ten scoped ones of each device. -/
def cellsB : Finset (GSem nD τ sig) := (Finset.univ : Finset (Dev nD)).image barC
def cellsO : Finset (GSem nD τ sig) := (Finset.univ : Finset (Dev nD × Fin 10)).image fun p => ((p.1 : Thread nD τ), osem p.2)

/-- Every cell keeps its schedule. -/
def allInv (K : GSem nD τ sig → ℕ) : sProp 𝕄 := bigSep (cellsB ∪ cellsO) fun g => cellInv ER (ringRd KV) (K g) g

theorem mem_bar (c : Dev nD) : barC c ∈ cellsB ∪ cellsO := Finset.mem_union_left _ (Finset.mem_image_of_mem _ (Finset.mem_univ c))
theorem mem_own (c : Dev nD) (k : Fin 10) : ((c : Thread nD τ), osem k) ∈ cellsB ∪ cellsO :=
  Finset.mem_union_right _ (Finset.mem_image.mpr ⟨(c, k), Finset.mem_univ _, rfl⟩)
theorem mem_cr (d : Bool) (c : Dev nD) : crC d c ∈ cellsB ∪ cellsO := by
  cases d
  · exact mem_own c 0
  · exact mem_own c 1
theorem mem_snd (d : Bool) (c : Dev nD) : sndC d c ∈ cellsB ∪ cellsO := by
  cases d
  · exact mem_own c 2
  · exact mem_own c 3
/-- Which of the ten cells slot `s` of direction `d` is filled on. -/
def rcvK (d : Bool) (s : Fin 3) : Fin 10 := cond d ![7, 8, 9] ![4, 5, 6] s
theorem osem_rcvK (d : Bool) (n : ℕ) : osem (rcvK d (m3 n)) = .dma (rcvS d n) := by
  have : ∀ (s : Fin 3), osem (rcvK d s) = .dma ((cond d ![11, 12, 13] ![7, 8, 9] : Fin 3 → DmaSem sig) s) := by
    revert d; decide
  exact this _
theorem mem_rcv (d : Bool) (n : ℕ) (c : Dev nD) : rcvC d n c ∈ cellsB ∪ cellsO := by
  have h := mem_own c (rcvK d (m3 n)); rw [osem_rcvK] at h; exact h

/-- What is kept through every step: the cells' schedules and the levels. -/
abbrev Ctx (K : GSem nD τ sig → ℕ) : sProp 𝕄 := iprop(allInv KV K ∗ levAts L lv)

theorem inv_at (K : GSem nD τ sig → ℕ) {g : GSem nD τ sig} (h : g ∈ cellsB ∪ cellsO) :
    allInv KV K ⊢ cellInv ER (ringRd KV) (K g) g := bigSep_elim h

instance allInv_persistent (K : GSem nD τ sig → ℕ) : BI.Persistent (allInv KV K) := by unfold allInv; infer_instance

/-- What a device owes, whatever waits are recorded. -/
abbrev owesX (c : Dev nD) (O : CellTallies nD τ sig ℕ) : sProp 𝕄 := iprop(∃ W, owes (c : Thread nD τ) O W)

/-! ## What a device holds of one direction before hop `n` -/

/-- The name the credit of hop `i` goes by: the first two come together. -/
def ci (i : ℕ) : ℕ := if i < 2 then 0 else i
theorem ci_le (i : ℕ) : ci i ≤ i := by unfold ci; split <;> omega

/-- The right to wait for the credits of hops `n` and later. -/
def crW (d : Bool) (n : ℕ) (c : Dev nD) : sProp 𝕄 :=
  iprop((if n < H d then (∃ T, atPos ER (crC d c) 0 T n) else atPos ER (crC d c) 1 ∅ 0)
    ∗ bigSep (Finset.Ico n (H d)) fun i => cred (tallyAt (crC d c) (ci i) 1))

/-- The right to make copies `n` and later: their cell's position and duties. -/
def sndSt (d : Bool) (n : ℕ) (c : Dev nD) : sProp 𝕄 :=
  iprop(atPos ER (sndC d c) n ∅ 0 ∗ reached ER (sndC d c) n ∗ bigSep (Finset.Ico n (H d)) fun i => dutyTok ER (sndC d c) i 0)
/-- The same while copy `n` is in flight. -/
def sndMid (d : Bool) (n : ℕ) (c : Dev nD) : sProp 𝕄 :=
  iprop(atPos ER (sndC d c) n ∅ 0 ∗ (bigSep (Finset.Ico (n + 1) (H d)) fun i => dutyTok ER (sndC d c) i 0) ∗ cred (tallyAt (sndC d c) 0 N))

/-- The duties of filling the neighbour's slots, for hops `n` and later. -/
def fillToks (d : Bool) (n : ℕ) (c : Dev nD) : sProp 𝕄 :=
  bigSep (Finset.Ico n (H d)) fun i => dutyTok ER (rcvC d (i + 1) (nx d c)) (i / 3) 0

/-- The position of the cell slot `s` is filled on. -/
def posR (d : Bool) (s r : ℕ) (c : Dev nD) : sProp 𝕄 := iprop(atPos ER (rcvC d s c) r ∅ 0 ∗ reached ER (rcvC d s c) r)
/-- The right to wait for hops `n` and later to come in. -/
def rcvSt (d : Bool) (n : ℕ) (c : Dev nD) : sProp 𝕄 :=
  iprop(posR d (n + 1) (n / 3) c ∗ posR d (n + 2) ((n + 1) / 3) c ∗ posR d n ((n + 2) / 3) c
    ∗ bigSep (Finset.Ico n (H d)) fun i => cred (tallyAt (rcvC d (i + 1) c) i N))

/-- The duties of giving credit for hops `n` and later. -/
def crToks (d : Bool) (n : ℕ) (c : Dev nD) : sProp 𝕄 :=
  iprop((bigSep (Finset.Ico n (H d)) fun i => dutyTok ER (crC d (pv d c)) 0 i) ∗ reached ER (crC d (pv d c)) 0)

/-- What the device's own copy of hop `n` takes along: the other direction's free slot, when the neighbour has use for it. -/
def give (d : Bool) (n : ℕ) (c : Dev nD) : sProp 𝕄 :=
  if Carries d n then peer (!d) (n + 2) c ((n + 1) / 3) else iprop(emp)
theorem give_eq (d : Bool) (n : ℕ) (c : Dev nD) : (backPay d n (nx d c) : sProp 𝕄) = give d n c := by
  unfold backPay give; rw [pv_nx]

/-- The slot the next copy goes to, or the device's own slot when there is none. -/
def Nbr (d : Bool) (n : ℕ) (c : Dev nD) : sProp 𝕄 :=
  if n < H d then peer d (n + 1) (nx d c) (n / 3) else anySlot d (n + 1) c
/-- The third slot: the neighbour's at the start, then the device's own. -/
def Ext (d : Bool) (n : ℕ) (c : Dev nD) : sProp 𝕄 :=
  if n = 0 then peer d 2 (nx d c) 0 else anySlot d (n + 2) c
/-- What stays of the third slot while the copies of hop `n` are in flight. -/
def Keep (d : Bool) (n : ℕ) (c : Dev nD) : sProp 𝕄 := if Carries (!d) n then iprop(emp) else Ext d n c

/-- Everything a device holds of direction `d` before hop `n`. -/
def St (d : Bool) (n : ℕ) (c : Dev nD) : sProp 𝕄 :=
  iprop(crW d n c ∗ sndSt d n c ∗ fillToks d n c ∗ rcvSt d n c ∗ crToks d (n + 2) c
    ∗ owns (c : Thread nD τ) (slot d n) fullShare (blk KV d n c) ∗ Nbr d n c ∗ Ext d n c)

theorem rcvSt_reached (d : Bool) (n : ℕ) (c : Dev nD) :
    (rcvSt d n c : sProp 𝕄) ⊢ iprop(rcvSt d n c ∗ reached ER (rcvC d (n + 2) c) ((n + 1) / 3)) := by
  unfold rcvSt posR
  iintro ⟨H1, ⟨H2, #H3⟩, H4⟩
  isplitl [H1 H2 H4]
  · isplitl [H1]; · iexact H1
    isplitl [H2]
    · isplitl [H2]; · iexact H2
      iexact H3
    · iexact H4
  · iexact H3

/-- The third slot goes along with the other direction's copy or stays. -/
theorem ext_split (d : Bool) (n : ℕ) (c : Dev nD) :
    (iprop(Ext d n c ∗ reached ER (rcvC d (n + 2) c) ((n + 1) / 3)) : sProp 𝕄) ⊢ iprop(give (!d) n c ∗ Keep d n c) := by
  unfold give Keep
  by_cases h : Carries (!d) n
  · rw [if_pos h, if_pos h]
    unfold Ext peer
    rw [if_neg (by have := h.1; omega), Bool.not_not]
    iintro ⟨H1, H2⟩
    isplitl
    · isplitl [H1] <;> iassumption
    · iempintro
  · rw [if_neg h, if_neg h]
    iintro ⟨H1, -⟩
    isplitr
    · iempintro
    · iexact H1

/-- After the copies: the slots stand for the next hop. -/
theorem ext_join (d : Bool) (n : ℕ) (c : Dev nD) (X : S2048x512.Idx → Elt F .bf16) :
    (iprop(Keep d n c ∗ backPay (!d) n c ∗ owns (c : Thread nD τ) (slot d n) fullShare.left X ∗ owns (c : Thread nD τ) (slot d n) fullShare.right X) : sProp 𝕄)
      ⊢ iprop(Nbr d (n + 1) c ∗ Ext d (n + 1) c) := by
  have hX : (iprop(owns (c : Thread nD τ) (slot d n) fullShare.left X ∗ owns (c : Thread nD τ) (slot d n) fullShare.right X) : sProp 𝕄)
      ⊢ Ext d (n + 1) c := by
    unfold Ext
    rw [if_neg (by omega)]
    unfold anySlot
    rw [show n + 1 + 2 = n + 3 from rfl, slot_add3]
    iintro H
    iexists X
    iapply (owns_halves (c : Thread nD τ) (slot d n) fullShare X).2 $$ H
  have hN : (iprop(Keep d n c ∗ backPay (!d) n c) : sProp 𝕄) ⊢ Nbr d (n + 1) c := by
    unfold Keep backPay Nbr
    by_cases h : Carries (!d) n
    · rw [if_pos h, if_pos h]
      have h2 := h.2; rw [Bool.not_not] at h2
      rw [if_pos h2, Bool.not_not]
      iintro ⟨-, H⟩
      show _ ⊢ peer d (n + 1 + 1) (nx d c) ((n + 1) / 3)
      unfold pv; rw [Bool.not_not]
    · rw [if_neg h, if_neg h]
      unfold Ext
      by_cases h0 : n = 0
      · subst h0
        rw [if_pos rfl, if_pos (show 0 + 1 < H d by cases d <;> decide)]
        iintro ⟨H, -⟩; iexact H
      · have : ¬ (n + 1 < H d) := fun hh => h ⟨by omega, by rw [Bool.not_not]; exact hh⟩
        rw [if_neg h0, if_neg this]
        iintro ⟨H, -⟩; iexact H
  iintro ⟨H1, H2, H3, H4⟩
  isplitl [H1 H2]
  · iapply hN; isplitl [H1] <;> iassumption
  · iapply hX; isplitl [H3] <;> iassumption

/-! ## The steps -/

variable (K : GSem nD τ sig → ℕ) (d : Bool) (n : ℕ) (c : Dev nD)

section Steps

/-- Waiting for one credit. -/
theorem wp_wait_credit {α : Type} {Q : α → sProp 𝕄} (hn : n < H d) {O : CellTallies nD τ sig ℕ} (hO : Above (2 * n + 2) O) {sem : Sem sig} (hs : sem = crS d)
    {w : Int} (hw : w = ((1 : ℕ) : Int)) {k : PUnit → Prog (TpuEff nD τ sig (Elt F) Λ₀ .tc) α} :
    (iprop(Ctx KV K ∗ crW d n c ∗ owesX c O) : sProp 𝕄)
      ⊢ iprop(((crW d (n + 1) c ∗ owesX c O) -∗ wp frame (wpE (defs₀ (F := F)) 𝒱₀ (c : Thread nD τ) none) Set.univ (k ⟨⟩) Q)
        -∗ wp frame (wpE (defs₀ (F := F)) 𝒱₀ (c : Thread nD τ) none) Set.univ (.op (.semWait sem w) k) Q) := by
  subst hs hw
  have hH := H_le d
  have hm : (levAts L lv : sProp 𝕄) ⊢ MayWait (c : Thread nD τ) (.reg (crS d)) (ci n) O :=
    mayWait c _ _ (by have := ci_le n; omega) (by rw [part_cr]; show 2 * ci n + 2 ≤ 2 * n + 2; have := ci_le n; omega) hO
  have hI := inv_at KV K (mem_cr d c)
  unfold crW
  rw [if_pos hn, bigSep_Ico_succ_bot hn]
  iintro ⟨⟨#Hi, #Hl⟩, ⟨⟨%T, Hat⟩, Hc, Hcs⟩, ⟨%W, HO⟩⟩ Hk
  ihave #HI := hI $$ Hi
  by_cases hl : n + 1 < H d
  · iapply (Rounds.wp_wait 𝒱₀ ER (ringRd KV) (c : Thread nD τ) none (κ := K (crC d c)) (wpE_semWait_eq 𝒱₀ (c : Thread nD τ) none Set.univ) (Set.mem_univ _)
      (cr := Finsupp.single (ci n) 1) {(.reg (crS d), ci n)} (O := O) (W := W) (R := 0) (m := n) (T := T) (Util.total_single _ _)
      (image_single_subset (.reg (crS d)) (ci n) 1)) $$ [Hc HO Hat]
    · isplitr; · iexact HI
      isplitl [Hc]; · iexact Hc
      isplitl [HO]; · iexact HO
      isplitr; · iapply hm; iexact Hl
      iexact Hat
    iintro %S ⟨-, HO, Hat, -⟩
    iapply Hk
    rw [if_pos hl]
    isplitl [Hat Hcs]
    · isplitl [Hat]; · iexists S; iexact Hat
      iexact Hcs
    · iexists _; iexact HO
  · iapply (Rounds.wp_wait_rest_token 𝒱₀ ER (ringRd KV) (c : Thread nD τ) none (κ := K (crC d c)) (wpE_semWait_eq 𝒱₀ (c : Thread nD τ) none Set.univ) (Set.mem_univ _)
      (ci n) (O := O) (W := W) (R := 0) (m := n) (T := T) (by rw [expect_cr]; omega)) $$ [Hc HO Hat]
    · isplitr; · iexact HI
      isplitl [Hc]; · iexact Hc
      isplitl [HO]; · iexact HO
      isplitr; · iapply hm; iexact Hl
      iexact Hat
    iintro ⟨HO, Hat, -, -⟩
    iapply Hk
    rw [if_neg hl]
    isplitl [Hat Hcs]
    · isplitl [Hat]; · iexact Hat
      iexact Hcs
    · iexists _; iexact HO

/-- Starting the copy of hop `n`: the half of the slot it reads and the neighbour's slot go, and with them the free slot
    the neighbour has use for. -/
theorem wp_send_hop {α : Type} {Q : α → sProp 𝕄} (hn : n < H d) {c' : Dev nD} (hc : c' = nx d c) {src dst : Memref sig .tc .vmem S2048x512 .bf16}
    (hs : src = slot d n) (hd : dst = slot d (n + 1)) {sS sR : DmaSem sig} (hsS : sS = sndS d) (hsR : sR = rcvS d (n + 1))
    {hsc : dst.view.ref.isScScratch = false} {hsrc : src.view.WordExact} {hdst : dst.view.WordExact}
    {hsem : DmaTarget.Typed .vmem (.dma sR) (.remote (c' : Thread nD τ) dst (.dma sS) hsc)}
    (O : CellTallies nD τ sig ℕ) {O₀ : CellTallies nD τ sig ℕ} (hO : O₀ = O + tallyAt (rcvC d (n + 1) (nx d c)) n N)
    {k : PUnit → Prog (TpuEff nD τ sig (Elt F) Λ₀ .tc) α} :
    (iprop(Ctx KV K ∗ sndSt d n c ∗ fillToks d n c ∗ owns (c : Thread nD τ) (slot d n) fullShare.left (blk KV d n c)
        ∗ Nbr d n c ∗ give d n c ∗ owesX c O₀) : sProp 𝕄)
      ⊢ iprop(((sndMid d n c ∗ fillToks d (n + 1) c ∗ owesX c O) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (c' : Thread nD τ) dst (.dma sS) hsc) (.dma sR) hsrc hdst hsem) k) Q) := by
  subst hc hs hd hsS hsR
  have hI := inv_at KV K (mem_snd d c)
  have hI' := inv_at KV K (mem_rcv d (n + 1) (nx d c))
  unfold sndSt fillToks sndMid Nbr peer anySlot
  rw [if_pos hn, bigSep_Ico_succ_bot hn, bigSep_Ico_succ_bot hn]
  unfold owns
  iintro ⟨⟨#Hi, -⟩, ⟨Hat, Hr, Ht, Hts⟩, ⟨Hf, Hfs⟩, ⟨%fs, %hfs, Hsrc⟩, ⟨⟨%X, %fd, -, Hdst⟩, Hrd⟩, Hg, ⟨%W, HO⟩⟩ Hk
  ihave #HI := hI $$ Hi
  ihave #HI' := hI' $$ Hi
  iapply (Rounds.wp_send_pointsTo_with 𝒱₀ ER (ringRd KV) (c : Thread nD τ) none (c' := (nx d c : Thread nD τ)) (src := slot d n) (dst := slot d (n + 1))
      (sS := .dma (sndS d)) (sem := .dma (rcvS d (n + 1))) (q := fullShare.left) (fs := fs) (fd := fd) (F := give d n c)
      (κ₁ := K (sndC d c)) (κ₂ := K (rcvC d (n + 1) (nx d c))) (r₁ := n) (r₂ := n / 3) (d₁ := 0) (d₂ := 0)
      (by rw [duties_snd KV d n c hn]; exact Finset.mem_singleton_self _) (by rw [duties_rcv KV d n _ hn]; exact Finset.mem_singleton_self _)
      n 0 N (credit_slot d (n + 1)) (amount_snd KV d c n 0) (amount_rcv KV d (n + 1) (nx d c) (n / 3) 0) O hO
      (by
        rw [payload_snd]; unfold sndPay; rw [← hfs]
        exact owns_intro (c : Thread nD τ) (slot d n) fullShare.left fs)
      (by
        rw [payload_rcv]; unfold rcvPay; rw [give_eq, blk_hop, hfs]
        refine sep_mono_left ((owns_intro (nx d c : Thread nD τ) (slot d (n + 1)) fullShare _).trans (Entails.of_eq ?_))
        rw [View.read_write_univ])) $$ [Hsrc Hdst Hg HO Ht Hr Hf Hrd]
  · isplitr; · iexact HI
    isplitr; · iexact HI'
    isplitl [Hsrc]; · iexact Hsrc
    isplitl [Hdst Hg]; · isplitl [Hdst] <;> iassumption
    isplitl [HO]; · iexact HO
    isplitl [Ht]; · iexact Ht
    isplitl [Hr]; · iexact Hr
    isplitl [Hf] <;> iassumption
  iintro ⟨Hc, HO⟩
  iapply Hk
  isplitl [Hat Hts Hc]
  · isplitl [Hat]; · iexact Hat
    isplitl [Hts] <;> iassumption
  isplitl [Hfs]; · iexact Hfs
  iexists W; iexact HO

/-- Waiting for the copy of hop `n` to have left: the half of the slot comes back. -/
theorem wp_wait_snd {α : Type} {Q : α → sProp 𝕄} (hn : n < H d) {O : CellTallies nD τ sig ℕ} (hO : Above 0 O) {sem : DmaSem sig} (hs : sem = sndS d)
    {src dst : Memref sig .tc .vmem S2048x512 .bf16} (hN : dst.view.dmaCredit = N) {hsrc : src.view.WordExact} {hdst : dst.view.WordExact}
    {k : PUnit → Prog (TpuEff nD τ sig (Elt F) Λ₀ .tc) α} :
    (iprop(Ctx KV K ∗ sndMid d n c ∗ owesX c O) : sProp 𝕄)
      ⊢ iprop(((sndSt d (n + 1) c ∗ owns (c : Thread nD τ) (slot d n) fullShare.left (blk KV d n c) ∗ owesX c O)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  subst hs
  have hm : (levAts L lv : sProp 𝕄) ⊢ MayWait (c : Thread nD τ) (.dma (sndS d)) 0 O :=
    mayWait c _ _ (by decide) (by rw [part_snd]; exact Nat.le_refl _) hO
  have hI := inv_at KV K (mem_snd d c)
  have hp : sndPay KV d n c = (owns (c : Thread nD τ) (slot d n) fullShare.left (blk KV d n c) : sProp 𝕄) := rfl
  rw [← hp]
  unfold sndMid sndSt
  iintro ⟨⟨#Hi, #Hl⟩, ⟨Hat, Hts, Hc⟩, ⟨%W, HO⟩⟩ Hk
  ihave #HI := hI $$ Hi
  iapply (Rounds.wp_wait_rest_token 𝒱₀ ER (ringRd KV) (c : Thread nD τ) none (κ := K (sndC d c))
    (wpE_waitDma2_eq (src := src) (dst := dst) 𝒱₀ (c : Thread nD τ) none Set.univ) (Set.mem_univ _)
    0 (O := O) (W := W) (R := n) (m := 0) (T := ∅) (by rw [expect_snd KV d n c hn, Nat.zero_add]; exact hN)) $$ [Hc HO Hat]
  · isplitr; · iexact HI
    isplitl [Hc]; · rw [hN]; iexact Hc
    isplitl [HO]; · iexact HO
    isplitr; · iapply hm; iexact Hl
    iexact Hat
  iintro ⟨HO, Hat, Hr, Hp⟩
  ihave Hp := (Entails.of_eq (rest_snd KV d n c hn)) $$ Hp
  iapply Hk
  isplitl [Hat Hts Hr]
  · isplitl [Hat]; · iexact Hat
    isplitl [Hr] <;> iassumption
  isplitl [Hp]
  · iexact Hp
  · iexists _; iexact HO

/-- Waiting for hop `n` to have come in: the slot comes with its block, and what was sent along with it. -/
theorem wp_wait_rcv {α : Type} {Q : α → sProp 𝕄} (hn : n < H d) {O : CellTallies nD τ sig ℕ} (hO : Above (2 * n + 3) O) {sem : DmaSem sig} (hs : sem = rcvS d (n + 1))
    {src dst : Memref sig .tc .vmem S2048x512 .bf16} (hN : dst.view.dmaCredit = N) {hsrc : src.view.WordExact} {hdst : dst.view.WordExact}
    {k : PUnit → Prog (TpuEff nD τ sig (Elt F) Λ₀ .tc) α} :
    (iprop(Ctx KV K ∗ rcvSt d n c ∗ owesX c O) : sProp 𝕄)
      ⊢ iprop(((rcvSt d (n + 1) c ∗ owns (c : Thread nD τ) (slot d (n + 1)) fullShare (blk KV d (n + 1) c) ∗ backPay d n c ∗ owesX c O)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  subst hs
  have hH := H_le d
  have hm : (levAts L lv : sProp 𝕄) ⊢ MayWait (c : Thread nD τ) (.dma (rcvS d (n + 1))) n O :=
    mayWait c _ _ (by omega) (by rw [part_rcv]; exact Nat.le_refl _) hO
  have hI := inv_at KV K (mem_rcv d (n + 1) c)
  unfold rcvSt posR
  rw [bigSep_Ico_succ_bot hn]
  iintro ⟨⟨#Hi, #Hl⟩, ⟨⟨Hat, -⟩, Hp2, ⟨Hp3, Hr3⟩, Hc, Hcs⟩, ⟨%W, HO⟩⟩ Hk
  ihave #HI := hI $$ Hi
  iapply (Rounds.wp_wait_rest_token 𝒱₀ ER (ringRd KV) (c : Thread nD τ) none (κ := K (rcvC d (n + 1) c))
    (wpE_waitDma2_eq (src := src) (dst := dst) 𝒱₀ (c : Thread nD τ) none Set.univ) (Set.mem_univ _)
    n (O := O) (W := W) (R := n / 3) (m := 0) (T := ∅) (by rw [expect_rcv KV d n c hn, Nat.zero_add]; exact hN)) $$ [Hc HO Hat]
  · isplitr; · iexact HI
    isplitl [Hc]; · rw [hN]; iexact Hc
    isplitl [HO]; · iexact HO
    isplitr; · iapply hm; iexact Hl
    iexact Hat
  iintro ⟨HO, Hat, Hr, Hp⟩
  ihave Hp := (Entails.of_eq ((rest_rcv KV d n c hn).trans (by unfold rcvPay; rfl))) $$ Hp
  iapply Hk
  icases Hp with ⟨Hs, Hb⟩
  isplitl [Hat Hr Hp2 Hp3 Hr3 Hcs]
  · isplitl [Hp2]; · iexact Hp2
    isplitl [Hp3 Hr3]
    · rw [show n + 1 + 2 = n + 3 from rfl, rcvC_add3, show n + 1 + 1 = n + 2 from rfl]
      isplitl [Hp3] <;> iassumption
    isplitl [Hat Hr]
    · rw [show (n + 1 + 2) / 3 = n / 3 + 1 by omega]
      isplitl [Hat] <;> iassumption
    · iexact Hcs
  isplitl [Hs]; · iexact Hs
  isplitl [Hb]; · iexact Hb
  iexists _; iexact HO

/-- Giving credit to the device the direction comes from. -/
theorem wp_signal_credit {α : Type} {Q : α → sProp 𝕄} (i a : ℕ) (hi : (i = 0 ∧ a = 2) ∨ (i ∈ Finset.Ico 2 (H d) ∧ a = 1)) {c' : Dev nD} (hc : c' = pv d c)
    {sem : Sem sig} (hs : sem = crS d) {w : Int} (hw : w = (a : Int))
    (O : CellTallies nD τ sig ℕ) {O₀ : CellTallies nD τ sig ℕ} (hO : O₀ = O + tallyAt (crC d (pv d c)) i a)
    {k : PUnit → Prog (TpuEff nD τ sig (Elt F) Λ₀ .tc) α} :
    (iprop(Ctx KV K ∗ dutyTok ER (crC d (pv d c)) 0 i ∗ reached ER (crC d (pv d c)) 0 ∗ owesX c O₀) : sProp 𝕄)
      ⊢ iprop((owesX c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (c' : Thread nD τ) sem w) k) Q) := by
  subst hc hs hw
  have hI := inv_at KV K (mem_cr d (pv d c))
  iintro ⟨⟨#Hi, -⟩, Ht, Hr, ⟨%W, HO⟩⟩ Hk
  ihave #HI := hI $$ Hi
  iapply (Rounds.wp_signal 𝒱₀ ER (ringRd KV) (c : Thread nD τ) none (dst := (pv d c : Thread nD τ)) (sem := crS d) (r := 0) (d := i) (κ := K (crC d (pv d c)))
      (by
        rw [duties_cr]
        rcases hi with ⟨h, -⟩ | ⟨h, -⟩
        · subst h; exact Finset.mem_insert_self _ _
        · exact Finset.mem_insert_of_mem h)
      (by
        rcases hi with ⟨h, h'⟩ | ⟨h, h'⟩
        · subst h h'; exact amount_cr_zero KV d _
        · subst h'; exact amount_cr KV d _ i (by have := (Finset.mem_Ico.mp h).1; omega))
      i O hO) $$ [HO Ht Hr]
  · isplitr; · iexact HI
    isplitl [HO]; · iexact HO
    isplitl [Ht]; · iexact Ht
    isplitr; · rw [payload_cr]; iempintro
    iexact Hr
  iintro HO
  iapply Hk; iexists W; iexact HO

/-- The duty of the neighbour's barrier cell that goes with direction `e`. -/
def bi (e : Bool) : ℕ := cond e 1 0
/-- What a device's barrier signal takes along: its free slots of direction `e`, its cells open. -/
def barMine (e : Bool) (c : Dev nD) : sProp 𝕄 :=
  iprop(peer e 1 c 0 ∗ peer e 2 c 0 ∗ reached ER (rcvC e 0 c) 0 ∗ reached ER (crC (!e) c) 0)
theorem payload_bar (e : Bool) : (ringRd KV).payload (barC (pv e c)) 0 (bi e) = barMine e c := by
  have : (barPay e (pv e c) : sProp 𝕄) = barMine e c := by unfold barPay barMine; rw [nx_pv]
  rw [← this]
  cases e
  · exact payload_bar_zero KV _
  · exact payload_bar_one KV _

/-- Signalling a neighbour's barrier cell. -/
theorem wp_signal_bar {α : Type} {Q : α → sProp 𝕄} {c' : Dev nD} (hc : c' = pv d c) {sem : Sem sig} (hs : sem = barS) {w : Int} (hw : w = ((1 : ℕ) : Int))
    (O : CellTallies nD τ sig ℕ) {O₀ : CellTallies nD τ sig ℕ} (hO : O₀ = O + tallyAt (barC (pv d c)) 0 1)
    {k : PUnit → Prog (TpuEff nD τ sig (Elt F) Λ₀ .tc) α} :
    (iprop(Ctx KV K ∗ dutyTok ER (barC (pv d c)) 0 (bi d) ∗ reached ER (barC (pv d c)) 0 ∗ barMine d c ∗ owesX c O₀) : sProp 𝕄)
      ⊢ iprop((owesX c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (c' : Thread nD τ) sem w) k) Q) := by
  subst hc hs hw
  have hI := inv_at KV K (mem_bar (pv d c))
  iintro ⟨⟨#Hi, -⟩, Ht, Hr, Hm, ⟨%W, HO⟩⟩ Hk
  ihave #HI := hI $$ Hi
  iapply (Rounds.wp_signal 𝒱₀ ER (ringRd KV) (c : Thread nD τ) none (dst := (pv d c : Thread nD τ)) (sem := barS) (r := 0) (d := bi d) (κ := K (barC (pv d c)))
      (by rw [duties_bar]; cases d <;> decide) (amount_bar KV _ _) 0 O hO) $$ [HO Ht Hr Hm]
  · isplitr; · iexact HI
    isplitl [HO]; · iexact HO
    isplitl [Ht]; · iexact Ht
    isplitl [Hm]; · rw [payload_bar]; iexact Hm
    iexact Hr
  iintro HO
  iapply Hk; iexists W; iexact HO

/-- Waiting on the own barrier cell: both neighbours' free slots come. -/
theorem wp_wait_bar {α : Type} {Q : α → sProp 𝕄} {O : CellTallies nD τ sig ℕ} (hO : Above 1 O) {sem : Sem sig} (hs : sem = barS)
    {w : Int} (hw : w = ((2 : ℕ) : Int)) {k : PUnit → Prog (TpuEff nD τ sig (Elt F) Λ₀ .tc) α} :
    (iprop(Ctx KV K ∗ cred (tallyAt (barC c) 0 2) ∗ atPos ER (barC c) 0 ∅ 0 ∗ owesX c O) : sProp 𝕄)
      ⊢ iprop(((atPos ER (barC c) 1 ∅ 0 ∗ barPay false c ∗ barPay true c ∗ owesX c O)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait sem w) k) Q) := by
  subst hs hw
  have hm : (levAts L lv : sProp 𝕄) ⊢ MayWait (c : Thread nD τ) (.reg barS) 0 O :=
    mayWait c _ _ (by decide) (by rw [part_bar]; exact Nat.le_refl _) hO
  have hI := inv_at KV K (mem_bar c)
  iintro ⟨⟨#Hi, #Hl⟩, Hc, Hat, ⟨%W, HO⟩⟩ Hk
  ihave #HI := hI $$ Hi
  iapply (Rounds.wp_wait_rest_token 𝒱₀ ER (ringRd KV) (c : Thread nD τ) none (κ := K (barC c)) (wpE_semWait_eq 𝒱₀ (c : Thread nD τ) none Set.univ) (Set.mem_univ _)
    0 (O := O) (W := W) (R := 0) (m := 0) (T := ∅) (by rw [expect_bar])) $$ [Hc HO Hat]
  · isplitr; · iexact HI
    isplitl [Hc]; · iexact Hc
    isplitl [HO]; · iexact HO
    isplitr; · iapply hm; iexact Hl
    iexact Hat
  iintro ⟨HO, Hat, -, Hp⟩
  ihave Hp := (Entails.of_eq (rest_bar KV c)) $$ Hp
  iapply Hk
  icases Hp with ⟨H1, H2⟩
  isplitl [Hat]; · iexact Hat
  isplitl [H1]; · iexact H1
  isplitl [H2]; · iexact H2
  iexists _; iexact HO

end Steps

end Cert.Ring
-- ==== Proof.Slots.lean ====
/-
  The slots in the scratch buffers: loading one, and the buffers as their three slots.
-/
module

public import proofs.«01_k».proof.Proof.Steps
public import Idealize.SL.BI.BigOpNat
public import Idealize.ShloMosaic.Lib.WritesUnit

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Blocks F)

variable (d : Bool) (n : ℕ) (c : Dev nD)

/-- A block as the loads of a slot return it. -/
def unsq (X : S2048x512.Idx → Elt F .bf16) : S1x2048x512.Idx → Elt F .bf16 :=
  shapeCast S1x2048x512 X (squeezes_S1x2048x512_S2048x512.numel_eq)

theorem slot_view : (slot d n).view = ((scrM d).view.slice (slotR n)).reshape S2048x512 squeezes_S1x2048x512_S2048x512.numel_eq := rfl
theorem slot_set : (slot d n).view.set = (slotR n).set.map (scrM d).view.emb := by
  show (((scrM d).view.slice (slotR n)).reshape S2048x512 squeezes_S1x2048x512_S2048x512.numel_eq).set = _
  rw [View.set_reshape, View.set_slice]
theorem unsq_read (f : (slot d n).view.ty.Contents (Elt F)) :
    unsq ((slot d n).view.read (Elt F) f) = (scrM d).view.readAt (Elt F) (slotR n).toLoadRect f := by
  have h := Memref.read_squeeze_slice (scrM d) (slotR n) (fun _ => rfl) squeezes_S1x2048x512_S2048x512
    (squeezes_S1x2048x512_S2048x512.numel_eq) f
  unfold slot unsq
  rw [h]
  exact shapeCast_shapeCast _ _ _

/-- Loading a slot, at any share of it. -/
theorem wp_load_slot {α : Type} {Q : α → sProp 𝕄} {M : Memref sig .tc .vmem S3x2048x512 .bf16} (hM : M = scrM d) (o : Fin 3 → ℕ) (ho : o = off3 n)
    {inb : ∀ a, o a + S1x2048x512.size a ≤ S3x2048x512.size a} {q : PosShare TreeShare} {X : S2048x512.Idx → Elt F .bf16}
    {hl : M.view.LoadsAt (Rect.unit (s := S3x2048x512) o S1x2048x512.size inb).toLoadRect}
    {k : (S1x2048x512.Idx → Elt F .bf16) → Prog (TpuEff nD τ sig (Elt F) Λ₀ .tc) α} :
    (owns (c : Thread nD τ) (slot d n) q X : sProp 𝕄)
      ⊢ iprop((owns (c : Thread nD τ) (slot d n) q X -∗ wp frame (wpE (defs₀ (F := F)) 𝒱₀ (c : Thread nD τ) none) Set.univ (k (unsq X)) Q)
        -∗ wp frame (wpE (defs₀ (F := F)) 𝒱₀ (c : Thread nD τ) none) Set.univ
            (.op (.load M (Rect.unit (s := S3x2048x512) o S1x2048x512.size inb).toLoadRect hl) k) Q) := by
  subst hM ho
  unfold owns
  iintro ⟨%f, %hf, H⟩ Hk
  have hu : unsq X = (scrM d).view.readAt (Elt F) (slotR n).toLoadRect f := by
    rw [← hf]; exact unsq_read d n f
  rw [hu]
  ihave H := (Entails.of_eq (show (((slot d n).view.loc (c : Thread nD τ) ↦[(slot d n).view.set]{q} f) : sProp 𝕄)
    = ((scrM d).view.loc (c : Thread nD τ) ↦[(slot d n).view.set]{q} f) from rfl)) $$ H
  iapply (wp_load 𝒱₀ (c : Thread nD τ) none Set.univ (m := scrM d) (r := (slotR n).toLoadRect) (hl := hl) (k := k) (S := (slot d n).view.set) (q := q) (f := f) (by
    rw [slot_set]; exact Finset.Subset.refl _)) $$ H
  iintro H
  iapply Hk
  iexists f
  isplitr; · ipureintro; exact hf
  iexact H

/-! ## A scratch buffer as its three slots -/

theorem slots_disjoint (t t' : Fin 3) (h : t ≠ t') : Disjoint (slotR t.val).set (slotR t'.val).set := by
  rw [Finset.disjoint_left]
  intro x hx hx'
  rw [Rect.mem_set_unit] at hx hx'
  have h1 := hx 0
  have h2 := hx' 0
  have e1 : off3 t.val 0 = t.val % 3 := rfl
  have e2 : off3 t'.val 0 = t'.val % 3 := rfl
  have e3 : S1x2048x512.size 0 = 1 := rfl
  rw [e1, e3] at h1; rw [e2, e3] at h2
  exact h (Fin.ext (by omega))
theorem slots_cover : (Finset.univ : Finset (Fin 3)).biUnion (fun t => (slotR t.val).set) = Finset.univ := by
  ext x
  simp only [Finset.mem_biUnion, Finset.mem_univ, true_and, iff_true]
  refine ⟨x 0, ?_⟩
  rw [Rect.mem_set_unit]
  have hb : ∀ a, (x a).val < S3x2048x512.size a := fun a => (x a).isLt
  intro a
  fin_cases a
  · show (x 0).val % 3 ≤ (x 0).val ∧ (x 0).val < (x 0).val % 3 + 1
    have h : (x 0).val < 3 := (x 0).isLt
    omega
  · exact ⟨Nat.zero_le _, lt_of_lt_of_eq (hb 1) (Nat.zero_add _).symm⟩
  · exact ⟨Nat.zero_le _, lt_of_lt_of_eq (hb 2) (Nat.zero_add _).symm⟩

/-- A slot owned, before its unit axis is dropped. -/
abbrev raw (d : Bool) (n : ℕ) : Memref sig .tc .vmem S1x2048x512 .bf16 := (scrM d).slice (slotR n) (fun _ => rfl)

theorem slot_of_raw (Y : S1x2048x512.Idx → Elt F .bf16) :
    (owns (c : Thread nD τ) (raw d n) fullShare Y : sProp 𝕄) ⊢ anySlot d n c := by
  have h : (slot d n).view.set = (raw d n).view.set := by rw [slot_set]; exact (View.set_slice _ _).symm
  unfold anySlot owns
  iintro ⟨%f, -, H⟩
  iexists ((slot d n).view.read (Elt F) f)
  iexists f
  isplitr; · ipureintro; rfl
  iapply (Entails.of_eq (show (((raw d n).view.loc (c : Thread nD τ) ↦[(raw d n).view.set]{fullShare} f) : sProp 𝕄)
    = ((slot d n).view.loc (c : Thread nD τ) ↦[(slot d n).view.set]{fullShare} f) by rw [h]; rfl)) $$ H
theorem raw_of_slot : (anySlot d n c : sProp 𝕄) ⊢ iprop(∃ Y, owns (c : Thread nD τ) (raw d n) fullShare Y) := by
  have h : (slot d n).view.set = (raw d n).view.set := by rw [slot_set]; exact (View.set_slice _ _).symm
  unfold anySlot owns
  iintro ⟨%X, %f, -, H⟩
  iexists ((raw d n).view.read (Elt F) f)
  iexists f
  isplitr; · ipureintro; rfl
  iapply (Entails.of_eq (show (((slot d n).view.loc (c : Thread nD τ) ↦[(slot d n).view.set]{fullShare} f) : sProp 𝕄)
    = ((raw d n).view.loc (c : Thread nD τ) ↦[(raw d n).view.set]{fullShare} f) by rw [h]; rfl)) $$ H

theorem fin3 (Φ : Fin 3 → sProp 𝕄) : bigSep Finset.univ Φ = iprop(Φ 0 ∗ Φ 1 ∗ Φ 2) :=
  bigSep_univ_eq_bigSepL [0, 1, 2] (by decide) (by decide) Φ

/-- The buffer is its three slots, -/
theorem slots_of_whole (X : S3x2048x512.Idx → Elt F .bf16) :
    (owns (c : Thread nD τ) (scrM d) fullShare X : sProp 𝕄) ⊢ iprop(anySlot d 0 c ∗ anySlot d 1 c ∗ anySlot d 2 c) := by
  refine (owns_rects (c : Thread nD τ) (scrM d) fullShare (fun t : Fin 3 => slotR t.val) (fun _ _ => rfl) slots_disjoint slots_cover X).trans ?_
  rw [fin3]
  exact Laws.sep_mono (slot_of_raw d 0 c _) (Laws.sep_mono (slot_of_raw d 1 c _) (slot_of_raw d 2 c _))

/-- and its three slots are the buffer. -/
theorem whole_of_slots : (iprop(anySlot d 0 c ∗ anySlot d 1 c ∗ anySlot d 2 c) : sProp 𝕄)
    ⊢ iprop(∃ X, owns (c : Thread nD τ) (scrM d) fullShare X) := by
  refine (Laws.sep_mono (raw_of_slot d 0 c) (Laws.sep_mono (raw_of_slot d 1 c) (raw_of_slot d 2 c))).trans ?_
  iintro ⟨⟨%Y0, H0⟩, ⟨%Y1, H1⟩, ⟨%Y2, H2⟩⟩
  let Y : Fin 3 → S1x2048x512.Idx → Elt F .bf16 := ![Y0, Y1, Y2]
  let X : S3x2048x512.Idx → Elt F .bf16 := fun i => Y (i 0) (fun a => match a with | 0 => (⟨0, Nat.one_pos⟩ : Fin 1) | 1 => i 1 | 2 => i 2)
  have hX : ∀ (t : Fin 3) (j : S1x2048x512.Idx), X ((slotR t.val).emb j) = Y t j := by
    intro t j
    have e0 : ((slotR t.val).emb j) 0 = t := Fin.ext (by
      show t.val % 3 + 1 * (j 0).val = t.val
      have : (j 0).val < 1 := (j 0).isLt
      have := t.isLt; omega)
    show Y (((slotR t.val).emb j) 0) _ = _
    rw [e0]
    refine congrArg (Y t) (funext fun a => Fin.ext ?_)
    fin_cases a
    · show 0 = (j 0).val
      have : (j 0).val < 1 := (j 0).isLt
      omega
    · show 0 + 1 * (j 1).val = (j 1).val; omega
    · show 0 + 1 * (j 2).val = (j 2).val; omega
  iexists X
  iapply (owns_of_rects (c : Thread nD τ) (scrM d) fullShare (fun t : Fin 3 => slotR t.val) (fun _ _ => rfl) slots_disjoint slots_cover X)
  iapply (Entails.of_eq (show (iprop(owns (c : Thread nD τ) (raw d 0) fullShare Y0 ∗ owns (c : Thread nD τ) (raw d 1) fullShare Y1
      ∗ owns (c : Thread nD τ) (raw d 2) fullShare Y2) : sProp 𝕄)
    = bigSep Finset.univ fun t : Fin 3 => owns (c : Thread nD τ) ((scrM d).slice (slotR t.val) (fun _ => rfl)) fullShare (fun j => X ((slotR t.val).emb j)) by
      rw [fin3]
      have e : ∀ t : Fin 3, (fun j => X ((slotR t.val).emb j)) = Y t := fun t => funext (hX t)
      rw [e 0, e 1, e 2]; rfl))
  isplitl [H0]; · iexact H0
  isplitl [H1] <;> iassumption

/-! ## Writing the first slot -/

theorem unsq_apply (X : S2048x512.Idx → Elt F .bf16) (i : S1x2048x512.Idx) : unsq X i = X (fun a => i a.succ) :=
  shapeCast_addUnit_apply ![2048, 512] X _ i
theorem unsq_inj {X Y : S2048x512.Idx → Elt F .bf16} (h : unsq X = unsq Y) : X = Y := by
  have := congrArg (fun Z : S1x2048x512.Idx → Elt F .bf16 => shapeCast S2048x512 Z (squeezes_S1x2048x512_S2048x512.numel_eq.symm)) h
  exact (shapeCast_shapeCast X _ _).symm.trans (this.trans (shapeCast_shapeCast Y _ _))

/-- The left half of the first slot, and the right half. -/
abbrev rK : Rect S3x2048x512 := Rect.unit (s := S3x2048x512) ![0, 0, 0] S1x2048x256.size inb_S3x2048x512_S1x2048x256_0_0_0
abbrev rV : Rect S3x2048x512 := Rect.unit (s := S3x2048x512) ![0, 0, 256] S1x2048x256.size inb_S3x2048x512_S1x2048x256_0_0_256

theorem rK_sub : rK.set ⊆ (slotR 0).set := by
  intro x hx
  rw [Rect.mem_set_unit] at hx ⊢
  intro a
  have h := hx a
  fin_cases a
  · exact h
  · exact h
  · have h' : (x 2).val < 0 + 256 := h.2
    exact ⟨Nat.zero_le _, by show (x 2).val < 0 + 512; omega⟩
theorem rV_sub : rV.set ⊆ (slotR 0).set := by
  intro x hx
  rw [Rect.mem_set_unit] at hx ⊢
  intro a
  have h := hx a
  fin_cases a
  · exact h
  · exact h
  · have h' : (x 2).val < 256 + 256 := h.2
    exact ⟨Nat.zero_le _, by show (x 2).val < 0 + 512; omega⟩

theorem read_written (f : (scrM d).view.ty.Contents (Elt F)) (k v : S2048x256.Idx → Elt F .bf16)
    (w1 w2 : S1x2048x256.Idx → Elt F .bf16) (hw1 : ∀ i, w1 i = k (fun a => i a.succ)) (hw2 : ∀ i, w2 i = v (fun a => i a.succ)) :
    (slot d 0).view.read (Elt F) ((scrM d).view.writes (Elt F) f [⟨rV, w2⟩, ⟨rK, w1⟩]) = kv k v := by
  apply unsq_inj
  refine (unsq_read d 0 ((scrM d).view.writes (Elt F) f [⟨rV, w2⟩, ⟨rK, w1⟩])).trans ?_
  funext i
  rw [unsq_apply]
  show (scrM d).view.read (Elt F) ((scrM d).view.writes (Elt F) f [⟨rV, w2⟩, ⟨rK, w1⟩]) ((slotR 0).emb i) = _
  have i0 : (i 0).val < 1 := (i 0).isLt
  have i1 : (i 1).val < 2048 := (i 1).isLt
  have i2 : (i 2).val < 512 := (i 2).isLt
  have e0 : (((slotR 0).emb i) 0).val = 0 + 1 * (i 0).val := rfl
  have e1 : (((slotR 0).emb i) 1).val = 0 + 1 * (i 1).val := rfl
  have e2 : (((slotR 0).emb i) 2).val = 0 + 1 * (i 2).val := rfl
  unfold kv
  by_cases h : (i 2).val < 256
  · rw [dif_pos (show ((fun a : Fin 2 => i a.succ) 1).val < 256 from h)]
    rw [View.read_writes_cons_unit_of_not_mem (scrM d).view f inb_S3x2048x512_S1x2048x256_0_0_256 w2 [⟨rK, w1⟩] ((slotR 0).emb i) rfl 2
      (Or.inl (by show (((slotR 0).emb i) 2).val < 256; omega))]
    rw [View.read_writes_cons_unit_of_mem (scrM d).view f inb_S3x2048x512_S1x2048x256_0_0_0 w1 [] ((slotR 0).emb i)
      (fun a => match a with | 0 => ⟨(i 0).val, i0⟩ | 1 => ⟨(i 1).val, i1⟩ | 2 => ⟨(i 2).val, h⟩) rfl
      (fun a => by
        fin_cases a
        · show (((slotR 0).emb i) 0).val = 0 + (i 0).val; omega
        · show (((slotR 0).emb i) 1).val = 0 + (i 1).val; omega
        · show (((slotR 0).emb i) 2).val = 0 + (i 2).val; omega)]
    rw [hw1]
    refine congrArg k (funext fun a => ?_)
    fin_cases a <;> rfl
  · rw [dif_neg (show ¬ ((fun a : Fin 2 => i a.succ) 1).val < 256 from h)]
    rw [View.read_writes_cons_unit_of_mem (scrM d).view f inb_S3x2048x512_S1x2048x256_0_0_256 w2 [⟨rK, w1⟩] ((slotR 0).emb i)
      (fun a => match a with | 0 => ⟨(i 0).val, i0⟩ | 1 => ⟨(i 1).val, i1⟩ | 2 => ⟨(i 2).val - 256, by show (i 2).val - 256 < 256; omega⟩) rfl
      (fun a => by
        fin_cases a
        · show (((slotR 0).emb i) 0).val = 0 + (i 0).val; omega
        · show (((slotR 0).emb i) 1).val = 0 + (i 1).val; omega
        · show (((slotR 0).emb i) 2).val = 256 + ((i 2).val - 256); omega)]
    rw [hw2]
    refine congrArg v (funext fun a => ?_)
    fin_cases a <;> rfl

/-- Writing keys and values side by side into the first slot. -/
theorem wp_fill {α : Type} {Q : α → sProp 𝕄} {M : Memref sig .tc .vmem S3x2048x512 .bf16} (hM : M = scrM d)
    (k v : S2048x256.Idx → Elt F .bf16)
    {w1 w2 : S1x2048x256.Idx → Elt F .bf16} (hw1 : ∀ i, w1 i = k (fun a => i a.succ)) (hw2 : ∀ i, w2 i = v (fun a => i a.succ))
    {hl1 : M.view.LoadsAt rK.toLoadRect} {hl2 : M.view.LoadsAt rV.toLoadRect}
    {hx1 : (M.access rK).Stores Finset.univ} {hm1 : (Finset.univ : Finset rK.shape.Idx) = Finset.univ ∨ ∀ a, rK.stride a = 1}
    {hx2 : (M.access rV).Stores Finset.univ} {hm2 : (Finset.univ : Finset rV.shape.Idx) = Finset.univ ∨ ∀ a, rV.stride a = 1}
    {p : PUnit → Prog (TpuEff nD τ sig (Elt F) Λ₀ .tc) α} :
    (anySlot d 0 c : sProp 𝕄)
      ⊢ iprop((owns (c : Thread nD τ) (slot d 0) fullShare (kv k v) -∗ wp frame (wpE (defs₀ (F := F)) 𝒱₀ (c : Thread nD τ) none) Set.univ (p ⟨⟩) Q)
        -∗ wp frame (wpE (defs₀ (F := F)) 𝒱₀ (c : Thread nD τ) none) Set.univ
            (.op (.load M rK.toLoadRect hl1) fun _ => .op (.store M rK w1 Finset.univ hx1 hm1) fun _ =>
              .op (.load M rV.toLoadRect hl2) fun _ => .op (.store M rV w2 Finset.univ hx2 hm2) p) Q) := by
  subst hM
  have hK : rK.set.map (scrM d).view.emb ⊆ (slot d 0).view.set := by rw [slot_set]; exact Finset.map_subset_map.mpr rK_sub
  have hV : rV.set.map (scrM d).view.emb ⊆ (slot d 0).view.set := by rw [slot_set]; exact Finset.map_subset_map.mpr rV_sub
  have hK' : ((scrM d).access rK).setOn Finset.univ ⊆ (slot d 0).view.set := by
    rw [View.setOn_univ]; exact (Finset.Subset.trans (subset_of_eq (View.set_slice _ _)) hK)
  have hV' : ((scrM d).access rV).setOn Finset.univ ⊆ (slot d 0).view.set := by
    rw [View.setOn_univ]; exact (Finset.Subset.trans (subset_of_eq (View.set_slice _ _)) hV)
  unfold anySlot owns
  iintro ⟨%X, %f, -, H⟩ Hk
  ihave H := (Entails.of_eq (show (((slot d 0).view.loc (c : Thread nD τ) ↦[(slot d 0).view.set]{fullShare} f) : sProp 𝕄)
    = ((scrM d).view.loc (c : Thread nD τ) ↦[(slot d 0).view.set]{fullShare} f) from rfl)) $$ H
  iapply (wp_load 𝒱₀ (c : Thread nD τ) none Set.univ (m := scrM d) (r := rK.toLoadRect) (hl := hl1) (S := (slot d 0).view.set) (q := fullShare) (f := f) hK) $$ H
  iintro H
  iapply (wp_store 𝒱₀ (c : Thread nD τ) none Set.univ (m := scrM d) (r := rK) (w := w1) (Mk := Finset.univ) (hx := hx1) (hm := hm1) (S := (slot d 0).view.set) (f := f) hK') $$ H
  iintro H
  iapply (wp_load 𝒱₀ (c : Thread nD τ) none Set.univ (m := scrM d) (r := rV.toLoadRect) (hl := hl2) (S := (slot d 0).view.set) (q := fullShare) (f := _) hV) $$ H
  iintro H
  iapply (wp_store 𝒱₀ (c : Thread nD τ) none Set.univ (m := scrM d) (r := rV) (w := w2) (Mk := Finset.univ) (hx := hx2) (hm := hm2) (S := (slot d 0).view.set) (f := _) hV') $$ H
  iintro H
  iapply Hk
  iexists ((scrM d).view.writes (Elt F) f [⟨rV, w2⟩, ⟨rK, w1⟩])
  isplitr
  · ipureintro; exact read_written d f k v w1 w2 hw1 hw2
  · iexact H

end Cert.Ring
-- ==== Proof.Values.lean ====
/-
  What the loop carries from step to step, what is owed along the way, and the names the program computes.
-/
module

public import proofs.«01_k».proof.Proof.Slots

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Blocks F) (K : GSem nD τ sig → ℕ) (c : Dev nD)

/-! ## The values the loop carries -/

abbrev Acc (F : FTy → Type) : Type := FVec F S2048x1 .f32 × FVec F S2048x256 .f32

/-- The constant the scores are shifted by. -/
abbrev four : F .f32 := Scalar.ofBits .f32 0x40800000#32

/-- One step on a block of each direction. -/
def stepAcc (qb : FVec F S2048x256 .bf16) (X Y : S1x2048x512.Idx → Elt F .bf16) (a : Acc F) : Acc F :=
  (k0_pay21 a.1 (k0_pay4 qb X) (k0_pay8 qb Y) four, k0_pay22 a.2 (k0_pay5 qb X) (k0_pay7 Y) (k0_pay8 qb Y) four)

/-- What is carried after `t` steps: the own block first, then a block of each direction per step. -/
def accAt (qb : FVec F S2048x256 .bf16) : ℕ → Acc F
  | 0 => (k0_pay18 qb (unsq (KV c)), k0_pay19 qb (unsq (KV c)))
  | t + 1 => stepAcc qb (unsq (blk KV false (t + 1) c)) (unsq (blk KV true (t + 1) c)) (accAt qb t)

/-! ## What is owed along the way -/

/-- What is owed with the copies up to `a` forward and `b` back started, and the credits up to `e` forward and `f` back given. -/
def ow (a b e f : ℕ) (c : Dev nD) : CellTallies nD τ sig ℕ :=
  fillOwed false a c + fillOwed true b c + crOwed false e c + crOwed true f c

theorem ow_a (a b e f : ℕ) (h : a < 16) : ow a b e f c = ow (a + 1) b e f c + tallyAt (rcvC false (a + 1) (nx false c)) a N := by
  unfold ow; rw [fillOwed_step false a c h]; ac_rfl
theorem ow_b (a b e f : ℕ) (h : b < 15) : ow a b e f c = ow a (b + 1) e f c + tallyAt (rcvC true (b + 1) (nx true c)) b N := by
  unfold ow; rw [fillOwed_step true b c h]; ac_rfl
theorem ow_e (a b e f : ℕ) (h : e < 16) : ow a b e f c = ow a b (e + 1) f c + tallyAt (crC false (pv false c)) e 1 := by
  unfold ow; rw [crOwed_step false e c h]; ac_rfl
theorem ow_f (a b e f : ℕ) (h : f < 15) : ow a b e f c = ow a b e (f + 1) c + tallyAt (crC true (pv true c)) f 1 := by
  unfold ow; rw [crOwed_step true f c h]; ac_rfl
theorem ow_b_end (a b e f : ℕ) (h : 15 ≤ b) : ow a b e f c = ow a (b + 1) e f c := by
  unfold ow; rw [fillOwed_end true b c h, fillOwed_end true (b + 1) c (by show 15 ≤ b + 1; omega)]
theorem ow_e_end (a b e f : ℕ) (h : 16 ≤ e) : ow a b e f c = ow a b (e + 1) f c := by
  unfold ow; rw [crOwed_end false e c h, crOwed_end false (e + 1) c (by show 16 ≤ e + 1; omega)]
theorem ow_f_end (a b e f : ℕ) (h : 15 ≤ f) : ow a b e f c = ow a b e (f + 1) c := by
  unfold ow; rw [crOwed_end true f c h, crOwed_end true (f + 1) c (by show 15 ≤ f + 1; omega)]
theorem ow_all (a b e f : ℕ) (ha : 16 ≤ a) (hb : 15 ≤ b) (he : 16 ≤ e) (hf : 15 ≤ f) : ow a b e f c = 0 := by
  unfold ow; rw [fillOwed_end false a c ha, fillOwed_end true b c hb, crOwed_end false e c he, crOwed_end true f c hf]; simp only [add_zero]
theorem above_ow {l : ℕ} (a b e f : ℕ) (ha : l < 2 * a + 3) (hb : l < 2 * b + 3) (he : l < 2 * e + 2) (hf : l < 2 * f + 2) :
    Above l (ow a b e f c) :=
  (((Above.fill false a c ha).add (Above.fill true b c hb)).add (Above.cr false e c he)).add (Above.cr true f c hf)

/-! ## Names the program computes -/

/-- The word of a device. -/
abbrev wd (x : Dev nD) : BitVec 32 := BitVec.ofNat 32 x.val

theorem nx_dev (x : Dev nD) : (0#32 + wd x * 1#32).toNat = x.val := by revert x; decide +kernel

/-- A semaphore the program names by its offset is that slot's. -/
theorem rcv_of_off (d : Bool) (n : ℕ) (o : Fin 1 → ℕ) (i : ∀ a, o a + S1.size a ≤ S3.size a) (h : o = ![n % 3]) :
    (((cond d cc0_scratch5 cc0_scratch3 : DmaSems sig S3).slice (Rect.unit (s := S3) o S1.size i)).squeeze S_ squeezes_S1_S_).sem = rcvS d n := by
  have key : ∀ (s : Fin 3) (i : ∀ a, (![s.val] : Fin 1 → ℕ) a + S1.size a ≤ S3.size a),
      (((cond d cc0_scratch5 cc0_scratch3 : DmaSems sig S3).slice (Rect.unit (s := S3) ![s.val] S1.size i)).squeeze S_ squeezes_S1_S_).sem
        = (cond d ![11, 12, 13] ![7, 8, 9] : Fin 3 → DmaSem sig) s := by
    revert d; decide
  subst h
  exact key (m3 n) i

end Cert.Ring
-- ==== Proof.Stepping.lean ====
/-
  A hop as a whole: how what is held of a direction opens before it and closes after it.
-/
module

public import proofs.«01_k».proof.Proof.Values

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Blocks F) (K : GSem nD τ sig → ℕ)

theorem St_eq (d : Bool) (n : ℕ) (c : Dev nD) :
    (St KV d n c : sProp 𝕄) = iprop(crW d n c ∗ sndSt d n c ∗ fillToks d n c ∗ rcvSt d n c ∗ crToks d (n + 2) c
      ∗ owns (c : Thread nD τ) (slot d n) fullShare (blk KV d n c) ∗ Nbr d n c ∗ Ext d n c) := rfl

/-- What is held of a direction before hop `n`, with the slot in halves and the third slot divided. -/
theorem St_open (d : Bool) (n : ℕ) (c : Dev nD) :
    (St KV d n c : sProp 𝕄) ⊢ iprop(crW d n c ∗ sndSt d n c ∗ fillToks d n c ∗ rcvSt d n c ∗ crToks d (n + 2) c
      ∗ owns (c : Thread nD τ) (slot d n) fullShare.left (blk KV d n c) ∗ owns (c : Thread nD τ) (slot d n) fullShare.right (blk KV d n c)
      ∗ Nbr d n c ∗ give (!d) n c ∗ Keep d n c) := by
  unfold St
  iintro ⟨H1, H2, H3, H4, H5, H6, H7, H8⟩
  ihave H4 := (rcvSt_reached d n c) $$ H4
  icases H4 with ⟨H4, Hr⟩
  ihave H8 := (ext_split d n c) $$ [H8 Hr]
  · isplitl [H8] <;> iassumption
  icases H8 with ⟨H8, H9⟩
  ihave H6 := (owns_halves (c : Thread nD τ) (slot d n) fullShare (blk KV d n c)).1 $$ H6
  icases H6 with ⟨H6, H6'⟩
  isplitl [H1]; · iexact H1
  isplitl [H2]; · iexact H2
  isplitl [H3]; · iexact H3
  isplitl [H4]; · iexact H4
  isplitl [H5]; · iexact H5
  isplitl [H6]; · iexact H6
  isplitl [H6']; · iexact H6'
  isplitl [H7]; · iexact H7
  isplitl [H8]; · iexact H8
  iexact H9

/-- After hop `n` what is held is what is held before hop `n + 1`. -/
theorem St_close (d : Bool) (n : ℕ) (c : Dev nD) :
    (iprop(crW d (n + 1) c ∗ sndSt d (n + 1) c ∗ fillToks d (n + 1) c ∗ rcvSt d (n + 1) c ∗ crToks d (n + 3) c
      ∗ owns (c : Thread nD τ) (slot d (n + 1)) fullShare (blk KV d (n + 1) c) ∗ Keep d n c ∗ backPay (!d) n c
      ∗ owns (c : Thread nD τ) (slot d n) fullShare.left (blk KV d n c) ∗ owns (c : Thread nD τ) (slot d n) fullShare.right (blk KV d n c)) : sProp 𝕄)
      ⊢ St KV d (n + 1) c := by
  unfold St
  iintro ⟨H1, H2, H3, H4, H5, H6, H7⟩
  ihave H7 := (ext_join d n c (blk KV d n c)) $$ H7
  isplitl [H1]; · iexact H1
  isplitl [H2]; · iexact H2
  isplitl [H3]; · iexact H3
  isplitl [H4]; · iexact H4
  isplitl [H5]; · iexact H5
  isplitl [H6]; · iexact H6
  iexact H7

/-- Giving the credit for hop `n` when the condition says there is such a hop, nothing otherwise. -/
theorem wp_credit_if {α : Type} {Q : α → sProp 𝕄} (d : Bool) (n : ℕ) (c : Dev nD) (h2 : 2 ≤ n) {p : Prop} [Decidable p] (hp : p ↔ n < H d) {c' : p → Dev nD} (hc : ∀ h, c' h = pv d c)
    {sem : Sem sig} (hs : sem = crS d) {w : Int} (hw : w = ((1 : ℕ) : Int)) (O O₀ : CellTallies nD τ sig ℕ)
    (hO : n < H d → O₀ = O + tallyAt (crC d (pv d c)) n 1) (hO' : H d ≤ n → O₀ = O)
    {k : Prog (TpuEff nD τ sig (Elt F) Λ₀ .tc) α} :
    (iprop(Ctx KV K ∗ crToks d n c ∗ owesX c O₀) : sProp 𝕄)
      ⊢ iprop(((crToks d (n + 1) c ∗ owesX c O) -∗ wp frame (wpE (defs₀ (F := F)) 𝒱₀ (c : Thread nD τ) none) Set.univ k Q)
        -∗ wp frame (wpE (defs₀ (F := F)) 𝒱₀ (c : Thread nD τ) none) Set.univ
            (if h : p then .op (.semSignal (c' h : Thread nD τ) sem w) (fun _ => k) else k) Q) := by
  by_cases h : p
  · have hn := hp.mp h
    rw [dif_pos h]
    unfold crToks
    rw [bigSep_Ico_succ_bot hn]
    iintro ⟨#HC, ⟨⟨Ht, Hts⟩, #Hr⟩, HO⟩ Hk
    iapply (wp_signal_credit KV K d c n 1 (.inr ⟨Finset.mem_Ico.mpr ⟨h2, hn⟩, rfl⟩) (hc h) hs hw O (hO hn)) $$ [Ht HO]
    · isplitr; · iexact HC
      isplitl [Ht]; · iexact Ht
      isplitr; · iexact Hr
      iexact HO
    iintro HO
    iapply Hk
    isplitl [Hts]
    · isplitl [Hts]; · iexact Hts
      iexact Hr
    · iexact HO
  · have hn : H d ≤ n := Nat.le_of_not_lt fun h' => h (hp.mpr h')
    rw [dif_neg h, hO' hn]
    unfold crToks
    rw [Finset.Ico_eq_empty (by omega), Finset.Ico_eq_empty (by omega)]
    iintro ⟨-, H, HO⟩ Hk
    iapply Hk
    isplitl [H] <;> iassumption

end Cert.Ring
-- ==== Proof.Trip.lean ====
/-
  A step of the loop, from what holds before it to what holds before the next.
-/
module

public import proofs.«01_k».proof.Proof.Stepping

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Blocks F) (K : GSem nD τ sig → ℕ) (c : Dev nD)

theorem trips_eq : k0_t1_loop.trips = 15 := by decide
theorem cond1_iff : ∀ t : Fin k0_t1_loop.trips, k0_cond1 t = 1#1 ↔ t.val < 14 := by decide +kernel
theorem cond2_iff : ∀ t : Fin k0_t1_loop.trips, k0_cond2 t = 1#1 ↔ t.val < 14 := by decide +kernel
theorem cond3_iff : ∀ t : Fin k0_t1_loop.trips, k0_cond3 t = 1#1 ↔ t.val + 3 < 16 := by decide +kernel
theorem cond4_iff : ∀ t : Fin k0_t1_loop.trips, k0_cond4 t = 1#1 ↔ t.val + 3 < 15 := by decide +kernel

/-- What holds before step `t + 1`: both directions are before that hop — the way back stops at the fifteenth —, the values
    carried are those of the blocks seen, and what is owed is what the steps from here on pay. -/
def inv (qb : FVec F S2048x256 .bf16) (t : ℕ) (a : Acc F) : sProp 𝕄 :=
  iprop(Ctx KV K ∗ ⌜a = accAt KV c qb t⌝ ∗ St KV false (t + 1) c ∗ St KV true (min (t + 1) 15) c ∗ owesX c (ow (t + 1) (t + 1) (t + 3) (t + 3) c))

set_option maxHeartbeats 4000000 in
/-- A step of the loop, before the last: both directions take their hop. -/
theorem trip_mid (qb : FVec F S2048x256 .bf16) (t : Fin k0_t1_loop.trips) (ht : t.val < 14) (a1 : FVec F S2048x1 .f32) (a2 : FVec F S2048x256 .f32)
    (hw2 : k0_chk2 (wd (nx false c))) (hw1 : k0_chk1 (wd (nx true c)))
    (v65 : FVec F S2048x1 .f32) (v67 : FVec F S2048x256 .f32) (Q : Acc F → sProp 𝕄) :
    inv KV K c qb t.val (a1, a2) ⊢ iprop((∀ b, inv KV K c qb (t.val + 1) b -∗ Q b) -∗
      wp frame (wpE (defs₀ (F := F)) 𝒱₀ (c : Thread nD τ) none) Set.univ (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (wd (nx false c)) hw2 (wd (nx true c)) hw1 qb v65 v67 t (a1, a2)) Q) := by
  unfold k0_t1_body
  simp only [k0_part1_eq_skeleton]; unfold k0_part1_skel
  simp only [semSignalWord, semWaitWord, Prog.lift, Prog.bind_op, Prog.bind_ret, Prog.pure_eq_ret, Prog.bind_assoc, dif_pos ((cond1_iff t).mpr ht), dif_pos ((cond2_iff t).mpr ht)]
  have e3 : k0_off3 t = off3 (t.val + 1 + 1) := k0_off3_eq t
  have e4 : k0_off4 t = off3 (t.val + 1) := k0_off4_eq t
  have e6 : k0_off6 t = off3 (t.val + 1 + 1) := k0_off6_eq t
  have e7 : k0_off7 t = off3 (t.val + 1) := k0_off7_eq t
  have e8 : k0_off8 t = off3 (t.val + 1) := k0_off8_eq t
  have e9 : k0_off9 t = off3 (t.val + 1) := k0_off9_eq t
  have e10 : k0_off10 t = off3 (t.val + 1 + 1) := k0_off10_eq t
  unfold inv
  rw [show min (t.val + 1) 15 = t.val + 1 by omega, show min (t.val + 1 + 1) 15 = t.val + 1 + 1 by omega]
  iintro ⟨#HC, %ha, HF, HR, HO⟩ Hk
  ihave HF := (St_open KV false (t.val + 1) c) $$ HF
  icases HF with ⟨Fw, Fs, Ff, Fr, Fc, Fl, Fh, Fn, Fg, Fk⟩
  ihave HR := (St_open KV true (t.val + 1) c) $$ HR
  icases HR with ⟨Rw, Rs, Rf, Rr, Rc, Rl, Rh, Rn, Rg, Rk⟩
  iapply (wp_wait_credit KV K false (t.val + 1) c (show t.val + 1 < 16 by omega) (above_ow c (t.val + 1) (t.val + 1) (t.val + 3) (t.val + 3) (by omega) (by omega) (by omega) (by omega)) rfl rfl) $$ [Fw HO]
  · isplitr; · iexact HC
    isplitl [Fw] <;> iassumption
  iintro ⟨Fw, HO⟩
  iapply (wp_send_hop KV K false (t.val + 1) c (show t.val + 1 < 16 by omega) (Fin.ext (nx_dev _)) (slot_of_off false _ _ _ e4) (slot_of_off false _ _ _ e3) rfl
    (rcv_of_off false (t.val + 1 + 1) _ _ (k0_off2_eq t)) (ow (t.val + 1 + 1) (t.val + 1) (t.val + 3) (t.val + 3) c) (ow_a c _ _ _ _ (by omega))) $$ [Fs Ff Fl Fn Rg HO]
  · isplitr; · iexact HC
    isplitl [Fs]; · iexact Fs
    isplitl [Ff]; · iexact Ff
    isplitl [Fl]; · iexact Fl
    isplitl [Fn]; · iexact Fn
    isplitl [Rg]; · iexact Rg
    iexact HO
  iintro ⟨Fs, Ff, HO⟩
  iapply (wp_wait_credit KV K true (t.val + 1) c (show t.val + 1 < 15 by omega) (above_ow c (t.val + 1 + 1) (t.val + 1) (t.val + 3) (t.val + 3) (by omega) (by omega) (by omega) (by omega)) rfl rfl) $$ [Rw HO]
  · isplitr; · iexact HC
    isplitl [Rw] <;> iassumption
  iintro ⟨Rw, HO⟩
  iapply (wp_send_hop KV K true (t.val + 1) c (show t.val + 1 < 15 by omega) (Fin.ext (nx_dev _)) (slot_of_off true _ _ _ e7) (slot_of_off true _ _ _ e6) rfl
    (rcv_of_off true (t.val + 1 + 1) _ _ (k0_off5_eq t)) (ow (t.val + 1 + 1) (t.val + 1 + 1) (t.val + 3) (t.val + 3) c) (ow_b c _ _ _ _ (by omega))) $$ [Rs Rf Rl Rn Fg HO]
  · isplitr; · iexact HC
    isplitl [Rs]; · iexact Rs
    isplitl [Rf]; · iexact Rf
    isplitl [Rl]; · iexact Rl
    isplitl [Rn]; · iexact Rn
    isplitl [Fg]; · iexact Fg
    iexact HO
  iintro ⟨Rs, Rf, HO⟩
  iapply (wp_load_slot false (t.val + 1) c rfl _ e8) $$ Fh
  iintro Fh
  iapply (wp_load_slot true (t.val + 1) c rfl _ e8) $$ Rh
  iintro Rh
  iapply (wp_wait_snd KV K false (t.val + 1) c (show t.val + 1 < 16 by omega) (above_ow c (t.val + 1 + 1) (t.val + 1 + 1) (t.val + 3) (t.val + 3) (by omega) (by omega) (by omega) (by omega)) rfl
    ((congrArg (fun M => M.view.dmaCredit) (slot_of_off false (t.val + 1) _ _ e4)).trans (credit_slot false _))) $$ [Fs HO]
  · isplitr; · iexact HC
    isplitl [Fs] <;> iassumption
  iintro ⟨Fs, Fl, HO⟩
  iapply (wp_wait_rcv KV K false (t.val + 1) c (show t.val + 1 < 16 by omega) (above_ow c (t.val + 1 + 1) (t.val + 1 + 1) (t.val + 3) (t.val + 3) (by omega) (by omega) (by omega) (by omega))
    (rcv_of_off false (t.val + 1 + 1) _ _ (k0_off2_eq t))
    ((congrArg (fun M => M.view.dmaCredit) (slot_of_off false (t.val + 1 + 1) _ _ e3)).trans (credit_slot false _))) $$ [Fr HO]
  · isplitr; · iexact HC
    isplitl [Fr] <;> iassumption
  iintro ⟨Fr, Fo, Fb, HO⟩
  iapply (wp_wait_snd KV K true (t.val + 1) c (show t.val + 1 < 15 by omega) (above_ow c (t.val + 1 + 1) (t.val + 1 + 1) (t.val + 3) (t.val + 3) (by omega) (by omega) (by omega) (by omega)) rfl
    ((congrArg (fun M => M.view.dmaCredit) (slot_of_off true (t.val + 1) _ _ e9)).trans (credit_slot true _))) $$ [Rs HO]
  · isplitr; · iexact HC
    isplitl [Rs] <;> iassumption
  iintro ⟨Rs, Rl, HO⟩
  iapply (wp_wait_rcv KV K true (t.val + 1) c (show t.val + 1 < 15 by omega) (above_ow c (t.val + 1 + 1) (t.val + 1 + 1) (t.val + 3) (t.val + 3) (by omega) (by omega) (by omega) (by omega))
    (rcv_of_off true (t.val + 1 + 1) _ _ (k0_off11_eq t))
    ((congrArg (fun M => M.view.dmaCredit) (slot_of_off true (t.val + 1 + 1) _ _ e10)).trans (credit_slot true _))) $$ [Rr HO]
  · isplitr; · iexact HC
    isplitl [Rr] <;> iassumption
  iintro ⟨Rr, Ro, Rb, HO⟩
  iapply (wp_credit_if KV K false (t.val + 1 + 2) c (by omega) (cond3_iff t) (fun _ => Fin.ext (nx_dev _)) rfl rfl
    (ow (t.val + 1 + 1) (t.val + 1 + 1) (t.val + 1 + 3) (t.val + 3) c) _ (fun h => ow_e c _ _ _ _ h) (fun h => ow_e_end c _ _ _ _ h)) $$ [Fc HO]
  · isplitr; · iexact HC
    isplitl [Fc] <;> iassumption
  iintro ⟨Fc, HO⟩
  iapply (wp_credit_if KV K true (t.val + 1 + 2) c (by omega) (cond4_iff t) (fun _ => Fin.ext (nx_dev _)) rfl rfl
    (ow (t.val + 1 + 1) (t.val + 1 + 1) (t.val + 1 + 3) (t.val + 1 + 3) c) _ (fun h => ow_f c _ _ _ _ h) (fun h => ow_f_end c _ _ _ _ h)) $$ [Rc HO]
  · isplitr; · iexact HC
    isplitl [Rc] <;> iassumption
  iintro ⟨Rc, HO⟩
  rw [wp_ret]; imodintro
  iapply Hk
  isplitr; · iexact HC
  isplitr
  · ipureintro
    show _ = stepAcc qb _ _ _
    rw [← ha]; rfl
  isplitl [Fw Fs Ff Fr Fc Fo Fk Rb Fl Fh]
  · iapply (St_close KV false (t.val + 1) c)
    isplitl [Fw]; · iexact Fw
    isplitl [Fs]; · iexact Fs
    isplitl [Ff]; · iexact Ff
    isplitl [Fr]; · iexact Fr
    isplitl [Fc]; · iexact Fc
    isplitl [Fo]; · iexact Fo
    isplitl [Fk]; · iexact Fk
    isplitl [Rb]; · iexact Rb
    isplitl [Fl] <;> iassumption
  isplitl [Rw Rs Rf Rr Rc Ro Rk Fb Rl Rh]
  · iapply (St_close KV true (t.val + 1) c)
    isplitl [Rw]; · iexact Rw
    isplitl [Rs]; · iexact Rs
    isplitl [Rf]; · iexact Rf
    isplitl [Rr]; · iexact Rr
    isplitl [Rc]; · iexact Rc
    isplitl [Ro]; · iexact Ro
    isplitl [Rk]; · iexact Rk
    isplitl [Fb]; · iexact Fb
    isplitl [Rl] <;> iassumption
  iexact HO

set_option maxHeartbeats 4000000 in
/-- The last step of the loop: only the way forward takes its hop. -/
theorem trip_last (qb : FVec F S2048x256 .bf16) (t : Fin k0_t1_loop.trips) (ht : t.val = 14) (a1 : FVec F S2048x1 .f32) (a2 : FVec F S2048x256 .f32)
    (hw2 : k0_chk2 (wd (nx false c))) (hw1 : k0_chk1 (wd (nx true c)))
    (v65 : FVec F S2048x1 .f32) (v67 : FVec F S2048x256 .f32) (Q : Acc F → sProp 𝕄) :
    inv KV K c qb t.val (a1, a2) ⊢ iprop((∀ b, inv KV K c qb (t.val + 1) b -∗ Q b) -∗
      wp frame (wpE (defs₀ (F := F)) 𝒱₀ (c : Thread nD τ) none) Set.univ (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (wd (nx false c)) hw2 (wd (nx true c)) hw1 qb v65 v67 t (a1, a2)) Q) := by
  unfold k0_t1_body
  simp only [k0_part1_eq_skeleton]; unfold k0_part1_skel
  simp only [semSignalWord, semWaitWord, Prog.lift, Prog.bind_op, Prog.bind_ret, Prog.pure_eq_ret, Prog.bind_assoc,
    dif_neg (mt (cond1_iff t).mp (by omega : ¬t.val < 14)), dif_neg (mt (cond2_iff t).mp (by omega : ¬t.val < 14)),
    dif_neg (mt (cond3_iff t).mp (by omega : ¬t.val + 3 < 16)), dif_neg (mt (cond4_iff t).mp (by omega : ¬t.val + 3 < 15))]
  have e3 : k0_off3 t = off3 (t.val + 1 + 1) := k0_off3_eq t
  have e4 : k0_off4 t = off3 (t.val + 1) := k0_off4_eq t
  have e8 : k0_off8 t = off3 (t.val + 1) := k0_off8_eq t
  have hg : (give false (t.val + 1) c : sProp 𝕄) = iprop(emp) := by
    unfold give; rw [if_neg (by rintro ⟨-, h⟩; have h : t.val + 1 + 1 < 15 := h; omega)]
  have hb : (backPay true (t.val + 1) c : sProp 𝕄) = iprop(emp) := by
    unfold backPay; rw [if_neg (by rintro ⟨-, h⟩; have h : t.val + 1 + 1 < 16 := h; omega)]
  unfold inv
  rw [show min (t.val + 1) 15 = t.val + 1 by omega, show min (t.val + 1 + 1) 15 = t.val + 1 by omega]
  iintro ⟨#HC, %ha, HF, HR, HO⟩ Hk
  ihave HF := (St_open KV false (t.val + 1) c) $$ HF
  icases HF with ⟨Fw, Fs, Ff, Fr, Fc, Fl, Fh, Fn, -, Fk⟩
  iapply (wp_wait_credit KV K false (t.val + 1) c (show t.val + 1 < 16 by omega) (above_ow c (t.val + 1) (t.val + 1) (t.val + 3) (t.val + 3) (by omega) (by omega) (by omega) (by omega)) rfl rfl) $$ [Fw HO]
  · isplitr; · iexact HC
    isplitl [Fw] <;> iassumption
  iintro ⟨Fw, HO⟩
  iapply (wp_send_hop KV K false (t.val + 1) c (show t.val + 1 < 16 by omega) (Fin.ext (nx_dev _)) (slot_of_off false _ _ _ e4) (slot_of_off false _ _ _ e3) rfl
    (rcv_of_off false (t.val + 1 + 1) _ _ (k0_off2_eq t)) (ow (t.val + 1 + 1) (t.val + 1) (t.val + 3) (t.val + 3) c) (ow_a c _ _ _ _ (by omega))) $$ [Fs Ff Fl Fn HO]
  · isplitr; · iexact HC
    isplitl [Fs]; · iexact Fs
    isplitl [Ff]; · iexact Ff
    isplitl [Fl]; · iexact Fl
    isplitl [Fn]; · iexact Fn
    isplitr; · rw [hg]; iempintro
    iexact HO
  iintro ⟨Fs, Ff, HO⟩
  iapply (wp_load_slot false (t.val + 1) c rfl _ e8) $$ Fh
  iintro Fh
  ihave HR := (Entails.of_eq (St_eq KV true (t.val + 1) c)) $$ HR
  icases HR with ⟨Rw, Rs, Rf, Rr, Rc, Rl, Re⟩
  iapply (wp_load_slot true (t.val + 1) c rfl _ e8) $$ Rl
  iintro Rl
  rw [ow_b_end c (t.val + 1 + 1) (t.val + 1) (t.val + 3) (t.val + 3) (by omega), ow_e_end c (t.val + 1 + 1) (t.val + 1 + 1) (t.val + 3) (t.val + 3) (by omega),
    ow_f_end c (t.val + 1 + 1) (t.val + 1 + 1) (t.val + 3 + 1) (t.val + 3) (by omega)]
  iapply (wp_wait_snd KV K false (t.val + 1) c (show t.val + 1 < 16 by omega) (above_ow c (t.val + 1 + 1) (t.val + 1 + 1) (t.val + 3 + 1) (t.val + 3 + 1) (by omega) (by omega) (by omega) (by omega)) rfl
    ((congrArg (fun M => M.view.dmaCredit) (slot_of_off false (t.val + 1) _ _ e4)).trans (credit_slot false _))) $$ [Fs HO]
  · isplitr; · iexact HC
    isplitl [Fs] <;> iassumption
  iintro ⟨Fs, Fl, HO⟩
  iapply (wp_wait_rcv KV K false (t.val + 1) c (show t.val + 1 < 16 by omega) (above_ow c (t.val + 1 + 1) (t.val + 1 + 1) (t.val + 3 + 1) (t.val + 3 + 1) (by omega) (by omega) (by omega) (by omega))
    (rcv_of_off false (t.val + 1 + 1) _ _ (k0_off2_eq t))
    ((congrArg (fun M => M.view.dmaCredit) (slot_of_off false (t.val + 1 + 1) _ _ e3)).trans (credit_slot false _))) $$ [Fr HO]
  · isplitr; · iexact HC
    isplitl [Fr] <;> iassumption
  iintro ⟨Fr, Fo, -, HO⟩
  rw [wp_ret]; imodintro
  iapply Hk
  isplitr; · iexact HC
  isplitr
  · ipureintro
    show _ = stepAcc qb _ _ _
    rw [← ha]; rfl
  isplitl [Fw Fs Ff Fr Fc Fo Fk Fl Fh]
  · iapply (St_close KV false (t.val + 1) c)
    isplitl [Fw]; · iexact Fw
    isplitl [Fs]; · iexact Fs
    isplitl [Ff]; · iexact Ff
    isplitl [Fr]; · iexact Fr
    isplitl [Fc]
    · unfold crToks
      rw [Finset.Ico_eq_empty (show ¬t.val + 1 + 2 < H false from (by show ¬_ < 16; omega)), Finset.Ico_eq_empty (show ¬t.val + 1 + 3 < H false from (by show ¬_ < 16; omega))]
      iexact Fc
    isplitl [Fo]; · iexact Fo
    isplitl [Fk]; · iexact Fk
    isplitr; · rw [show (!false) = true from rfl, hb]; iempintro
    isplitl [Fl] <;> iassumption
  isplitl [Rw Rs Rf Rr Rc Rl Re]
  · iapply (Entails.of_eq (St_eq KV true (t.val + 1) c).symm)
    isplitl [Rw]; · iexact Rw
    isplitl [Rs]; · iexact Rs
    isplitl [Rf]; · iexact Rf
    isplitl [Rr]; · iexact Rr
    isplitl [Rc]; · iexact Rc
    isplitl [Rl] <;> iassumption
  iexact HO

/-- A step of the loop. -/
theorem trip (qb : FVec F S2048x256 .bf16) (t : Fin k0_t1_loop.trips) (a : Acc F)
    (hw2 : k0_chk2 (wd (nx false c))) (hw1 : k0_chk1 (wd (nx true c)))
    (v65 : FVec F S2048x1 .f32) (v67 : FVec F S2048x256 .f32) :
    inv KV K c qb t.val a ⊢
      wp frame (wpE (defs₀ (F := F)) 𝒱₀ (c : Thread nD τ) none) Set.univ (k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 (wd (nx false c)) hw2 (wd (nx true c)) hw1 qb v65 v67 t a) (inv KV K c qb (t.val + 1)) := by
  obtain ⟨a1, a2⟩ := a
  have hlt : t.val < 15 := Nat.lt_of_lt_of_eq t.isLt trips_eq
  iintro H
  by_cases ht : t.val < 14
  · iapply (trip_mid KV K c qb t ht a1 a2 hw2 hw1 v65 v67 (inv KV K c qb (t.val + 1))) $$ H
    iintro %b H; iexact H
  · iapply (trip_last KV K c qb t (by omega) a1 a2 hw2 hw1 v65 v67 (inv KV K c qb (t.val + 1))) $$ H
    iintro %b H; iexact H

end Cert.Ring
-- ==== Proof.Start.lean ====
/-
  What a device starts the kernel's body with, and the names of what it reads and writes.
-/
module

public import proofs.«01_k».proof.Proof.Trip

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (kB vB : Dev nD → S2048x256.Idx → Elt F .bf16) (K : GSem nD τ sig → ℕ) (c : Dev nD)

/-- The block a device starts with: its keys beside its values. -/
abbrev KVof : Blocks F := fun c => kv (kB c) (vB c)

/-- What the device computes from its queries and the blocks of all. -/
def outOf (q : S2048x256.Idx → Elt F .bf16) : S2048x256.Idx → Elt F .f32 :=
  k0_pay1 (accAt (KVof kB vB) c (k0_pay15 q) 15).1 (accAt (KVof kB vB) c (k0_pay15 q) 15).2
    (k0_pay24 (unsq (blk (KVof kB vB) false 16 c))) (k0_pay25 (k0_pay15 q) (unsq (blk (KVof kB vB) false 16 c))) four

/-! ## The buffers and the tables -/

/-- A buffer of the device's, held in full. -/
abbrev pt (c : Dev nD) (b : Ref sig .tc) (X : Buf (Elt F) ((c : Thread nD τ).loc b)) : sProp 𝕄 := ((c : Thread nD τ).loc b) ↦{fullShare} X

theorem owns_whole_eq (b : Ref sig .tc) (X : b.ty.Contents (Elt F)) :
    (owns (c : Thread nD τ) (Memref.whole b) fullShare X : sProp 𝕄)
      = iprop(∃ f : Buf (Elt F) ((c : Thread nD τ).loc b), ⌜f = X⌝ ∗ pt c b f) := by
  unfold owns; simp only [Memref.view_whole, View.read_whole, View.set_whole]

theorem chk2_ok : ∀ x : Dev nD, k0_chk2 (wd x) := by decide +kernel
theorem chk1_ok : ∀ x : Dev nD, k0_chk1 (wd x) := by decide +kernel

theorem hz : (![0, 0] : Fin 2 → Nat) = fun _ => 0 := funext fun a => by fin_cases a <;> rfl
abbrev r0 : Rect S2048x256 := Rect.unit (s := S2048x256) ![0, 0] S2048x256.size inb_S2048x256_S2048x256_0_0
theorem read_q (f : (cc0_stg2_0 : Ref sig .tc).ty.Contents (Elt F)) : (Memref.whole cc0_stg2_0 : Memref sig .tc .vmem S2048x256 .bf16).view.readAt (Elt F) r0.toLoadRect f = f :=
  Memref.readAt_unit_zero (Elt F) cc0_stg2_0 hz _ f
theorem read_k (f : (cc0_stg3_0 : Ref sig .tc).ty.Contents (Elt F)) : (Memref.whole cc0_stg3_0 : Memref sig .tc .vmem S2048x256 .bf16).view.readAt (Elt F) r0.toLoadRect f = f :=
  Memref.readAt_unit_zero (Elt F) cc0_stg3_0 hz _ f
theorem read_v (f : (cc0_stg4_0 : Ref sig .tc).ty.Contents (Elt F)) : (Memref.whole cc0_stg4_0 : Memref sig .tc .vmem S2048x256 .bf16).view.readAt (Elt F) r0.toLoadRect f = f :=
  Memref.readAt_unit_zero (Elt F) cc0_stg4_0 hz _ f
theorem write_out (f w : (cc0_stg5_0 : Ref sig .tc).ty.Contents (Elt F)) :
    ((Memref.whole cc0_stg5_0 : Memref sig .tc .vmem S2048x256 .f32).access r0 : View sig .tc _ _ _).write (Elt F) f w Finset.univ = w :=
  Memref.write_access_unit_zero_univ (Elt F) cc0_stg5_0 hz _ f w

/-- The table of the devices `nx b`, as words. -/
def IsTab (b : Bool) (T : S32.Idx → Elt F .i32) : Prop := ∀ x : Dev nD, ∀ i : S32.Idx, (i 0).val = x.val → T i = wd (nx b x)

abbrev rT : Rect S32 := Rect.unit (s := S32) (k0_off1 c) S1.size (k0_off1_inb c)

theorem read_tab0 {b : Bool} {T : (cc0_stg0_0 : Ref sig .tc).ty.Contents (Elt F)} (hT : IsTab b T) :
    ((Memref.whole cc0_stg0_0).access (rT c) : View sig .tc _ _ _).read (Elt F) T = fun _ => wd (nx b c) := by
  funext i
  show T _ = _
  refine hT c _ ?_
  show (k0_off1 c 0 + 1 * (i 0).val) = c.val
  rw [k0_off1_eq]
  have : (i 0).val < 1 := (i 0).isLt
  show c.val + 1 * (i 0).val = c.val
  omega
theorem read_tab1 {b : Bool} {T : (cc0_stg1_0 : Ref sig .tc).ty.Contents (Elt F)} (hT : IsTab b T) :
    ((Memref.whole cc0_stg1_0).access (rT c) : View sig .tc _ _ _).read (Elt F) T = fun _ => wd (nx b c) := by
  funext i
  show T _ = _
  refine hT c _ ?_
  show (k0_off1 c 0 + 1 * (i 0).val) = c.val
  rw [k0_off1_eq]
  have : (i 0).val < 1 := (i 0).isLt
  show c.val + 1 * (i 0).val = c.val
  omega

/-! ## What the device starts from -/

/-- What it holds of the barrier: its own count, and the duty towards each neighbour. -/
def GhB : sProp 𝕄 :=
  iprop(cred (tallyAt (barC c) 0 2) ∗ atPos ER (barC c) 0 ∅ 0
    ∗ (dutyTok ER (barC (pv false c)) 0 (bi false) ∗ reached ER (barC (pv false c)) 0)
    ∗ (dutyTok ER (barC (pv true c)) 0 (bi true) ∗ reached ER (barC (pv true c)) 0))

/-- What it holds of a direction's counts and duties. -/
def Gh (d : Bool) (c : Dev nD) : sProp 𝕄 :=
  iprop((atPos ER (crC d c) 0 ∅ 0 ∗ reached ER (crC d c) 0 ∗ bigSep (Finset.Ico 0 (H d)) fun i => cred (tallyAt (crC d c) (ci i) 1))
    ∗ sndSt d 0 c ∗ fillToks d 0 c ∗ rcvSt d 0 c
    ∗ (dutyTok ER (crC d (pv d c)) 0 0 ∗ bigSep (Finset.Ico 2 (H d)) fun i => dutyTok ER (crC d (pv d c)) 0 i))

/-- What is known of the start of a direction's own slots. -/
theorem Gh_known (d : Bool) : (Gh d c : sProp 𝕄) ⊢ iprop(Gh d c ∗ reached ER (rcvC d 0 c) 0 ∗ reached ER (rcvC d 1 c) 0 ∗ reached ER (rcvC d 2 c) 0 ∗ reached ER (crC d c) 0) := by
  unfold Gh rcvSt posR
  iintro ⟨⟨H1, #H2, H3⟩, H4, H5, ⟨⟨H6, #H7⟩, ⟨H8, #H9⟩, ⟨H10, #H11⟩, H12⟩, H13⟩
  isplitl [H1 H3 H4 H5 H6 H8 H10 H12 H13]
  · isplitl [H1 H3]
    · isplitl [H1]; · iexact H1
      isplitr; · iexact H2
      iexact H3
    isplitl [H4]; · iexact H4
    isplitl [H5]; · iexact H5
    isplitl [H6 H8 H10 H12]
    · isplitl [H6]
      · isplitl [H6]; · iexact H6
        iexact H7
      isplitl [H8]
      · isplitl [H8]; · iexact H8
        iexact H9
      isplitl [H10]
      · isplitl [H10]; · iexact H10
        iexact H11
      iexact H12
    iexact H13
  isplitr; · iexact H11
  isplitr; · iexact H7
  isplitr; · iexact H9
  iexact H2

/-- What a device lets its neighbour have: two of its slots, with what is known of them. -/
theorem bar_give (e : Bool) : (iprop(anySlot e 1 c ∗ anySlot e 2 c ∗ reached ER (rcvC e 0 c) 0 ∗ reached ER (rcvC e 1 c) 0 ∗ reached ER (rcvC e 2 c) 0
      ∗ reached ER (crC (!e) c) 0) : sProp 𝕄) ⊢ barMine e c := by
  unfold barMine peer
  iintro ⟨H1, H2, H3, H4, H5, H6⟩
  isplitl [H1 H4]; · isplitl [H1] <;> iassumption
  isplitl [H2 H5]; · isplitl [H2] <;> iassumption
  isplitl [H3] <;> iassumption

/-- The state before the first hop, from what the device starts from, its own slot filled and the neighbour's slots. -/
theorem St_start (KV : Blocks F) (d : Bool) :
    (iprop((atPos ER (crC d c) 0 ∅ 0 ∗ bigSep (Finset.Ico 0 (H d)) fun i => cred (tallyAt (crC d c) (ci i) 1))
      ∗ sndSt d 0 c ∗ fillToks d 0 c ∗ rcvSt d 0 c ∗ (bigSep (Finset.Ico 2 (H d)) fun i => dutyTok ER (crC d (pv d c)) 0 i) ∗ reached ER (crC d (pv d c)) 0
      ∗ owns (c : Thread nD τ) (slot d 0) fullShare (KV c) ∗ peer d 1 (nx d c) 0 ∗ peer d 2 (nx d c) 0) : sProp 𝕄) ⊢ St KV d 0 c := by
  have h0 : 0 < H d := by cases d <;> decide
  unfold St crW Nbr Ext crToks
  rw [if_pos h0, if_pos h0, if_pos rfl, blk_zero]
  iintro ⟨⟨H1, H2⟩, H3, H4, H5, H6, H7, H8, H9, H10⟩
  isplitl [H1 H2]
  · isplitl [H1]; · iexists ∅; iexact H1
    iexact H2
  isplitl [H3]; · iexact H3
  isplitl [H4]; · iexact H4
  isplitl [H5]; · iexact H5
  isplitl [H6 H7]; · isplitl [H6] <;> iassumption
  isplitl [H8]; · iexact H8
  isplitl [H9] <;> iassumption

/-- What the device starts the kernel's body with. -/
def bodyIn (T0 : Buf (Elt F) ((c : Thread nD τ).loc cc0_stg0_0)) (T1 : Buf (Elt F) ((c : Thread nD τ).loc cc0_stg1_0)) (q : S2048x256.Idx → Elt F .bf16) : sProp 𝕄 :=
  iprop(Ctx (KVof kB vB) K ∗ GhB c ∗ Gh false c ∗ Gh true c ∗ owesX c (owed₀ c)
    ∗ pt c cc0_stg0_0 T0 ∗ pt c cc0_stg1_0 T1 ∗ pt c cc0_stg2_0 q ∗ pt c cc0_stg3_0 (kB c) ∗ pt c cc0_stg4_0 (vB c)
    ∗ (∃ f, pt c cc0_stg5_0 f) ∗ (∃ f, pt c cc0_scratch0 f) ∗ (∃ f, pt c cc0_scratch1 f))

/-- What it ends it with. -/
def bodyOut (T0 : Buf (Elt F) ((c : Thread nD τ).loc cc0_stg0_0)) (T1 : Buf (Elt F) ((c : Thread nD τ).loc cc0_stg1_0)) (q : S2048x256.Idx → Elt F .bf16) : sProp 𝕄 :=
  iprop(atPos ER (barC c) 1 ∅ 0 ∗ St (KVof kB vB) false 16 c ∗ St (KVof kB vB) true 15 c ∗ owesX c 0
    ∗ pt c cc0_stg0_0 T0 ∗ pt c cc0_stg1_0 T1 ∗ pt c cc0_stg2_0 q ∗ pt c cc0_stg3_0 (kB c) ∗ pt c cc0_stg4_0 (vB c)
    ∗ pt c cc0_stg5_0 (outOf kB vB c q))

/-! ## The body -/

theorem fill1 (k : S2048x256.Idx → Elt F .bf16) (i : S1x2048x256.Idx) : (k0_pay11 (F := F) k) i = k (fun a => i a.succ) := by
  unfold k0_pay11 k0_pay9
  refine (shapeCast_addUnit_apply ![2048, 256] _ _ i).trans ?_
  rw [shapeCast_self]
theorem fill2 (v : S2048x256.Idx → Elt F .bf16) (i : S1x2048x256.Idx) : (k0_pay12 (F := F) v) i = v (fun a => i a.succ) := by
  unfold k0_pay12 k0_pay10
  refine (shapeCast_addUnit_apply ![2048, 256] _ _ i).trans ?_
  rw [shapeCast_self]
theorem fill4 (v : S2048x256.Idx → Elt F .bf16) (i : S1x2048x256.Idx) : (k0_pay14 (F := F) (k0_pay10 v)) i = v (fun a => i a.succ) := by
  unfold k0_pay14 k0_pay10
  refine (shapeCast_addUnit_apply ![2048, 256] _ _ i).trans ?_
  rw [shapeCast_self]

theorem owed_start : owed₀ c = (ow 0 0 2 2 c + tallyAt (crC true (pv true c)) 0 2 + tallyAt (crC false (pv false c)) 0 2 + tallyAt (barC (pv true c)) 0 1)
    + tallyAt (barC (pv false c)) 0 1 := rfl

theorem above_bar : Above 1 (ow 0 0 2 2 c + tallyAt (crC true (pv true c)) 0 2 + tallyAt (crC false (pv false c)) 0 2) := by
  refine ((above_ow c 0 0 2 2 (by omega) (by omega) (by omega) (by omega)).add (Above.tally _ _ _ _ (by omega) ?_)).add (Above.tally _ _ _ _ (by omega) ?_)
  · rw [part_cr]; decide
  · rw [part_cr]; decide

end Cert.Ring
-- ==== Proof.Body.lean ====
/-
  The kernel's body, from what a device starts with to what it ends with.
-/
module

public import proofs.«01_k».proof.Proof.Start

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (kB vB : Dev nD → S2048x256.Idx → Elt F .bf16) (K : GSem nD τ sig → ℕ) (c : Dev nD)

set_option maxHeartbeats 8000000 in
/-- The body runs from what the device starts with to what it ends with. -/
theorem body_run (T0 : Buf (Elt F) ((c : Thread nD τ).loc cc0_stg0_0)) (T1 : Buf (Elt F) ((c : Thread nD τ).loc cc0_stg1_0)) (h0 : IsTab (F := F) false T0) (h1 : IsTab (F := F) true T1)
    (q : S2048x256.Idx → Elt F .bf16) (Kt : PUnit → sProp 𝕄) :
    (iprop(bodyIn kB vB K c T0 T1 q ∗ (bodyOut kB vB c T0 T1 q -∗ Kt ⟨⟩)) : sProp 𝕄)
      ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7) Kt := by
  simp only [cc0_body_eq_skeleton]; unfold cc0_body_skel
  simp only [k0_part2_eq_skeleton, k0_part3_eq_skeleton, k0_part4_eq_skeleton, k0_part5_eq_skeleton]
  unfold k0_part2_skel k0_part3_skel k0_part4_skel k0_part5_skel
  simp only [semSignalWord, semWaitWord, smemLoad, smemLoadElt, Prog.lift, Prog.bind_op, Prog.bind_ret, Prog.pure_eq_ret, Prog.bind_assoc, wp_deviceId]
  unfold bodyIn GhB
  iintro ⟨⟨#HC, ⟨HcB, HaB, ⟨Ht0, #Hr0⟩, ⟨Ht1, #Hr1⟩⟩, HF, HR, HO, HT0, HT1, Hq, Hk, Hv, ⟨%fo, Hout⟩, ⟨%g0, HS0⟩, ⟨%g1, HS1⟩⟩, HK⟩
  iapply (wp_load_rect 𝒱₀ (c : Thread nD τ) none Set.univ (m := Memref.whole cc0_stg0_0) (r := rT c) (Finset.subset_univ _)) $$ HT0; iintro HT0
  rw [read_tab0 c h0]
  simp only [wp_assume_of _ _ _ _ (d := k0_chk2.dec _) (chk2_ok (nx false c))]
  iapply (wp_load_rect 𝒱₀ (c : Thread nD τ) none Set.univ (m := Memref.whole cc0_stg1_0) (r := rT c) (Finset.subset_univ _)) $$ HT1; iintro HT1
  rw [read_tab1 c h1]
  simp only [wp_assume_of _ _ _ _ (d := k0_chk1.dec _) (chk1_ok (nx true c))]
  ihave HS0 := (slots_of_whole false c g0) $$ [HS0]
  · iapply (Entails.of_eq (owns_whole_eq c cc0_scratch0 g0).symm); iexists g0; isplitr; · (ipureintro; rfl)
    iexact HS0
  icases HS0 with ⟨F0, F1, F2⟩
  ihave HS1 := (slots_of_whole true c g1) $$ [HS1]
  · iapply (Entails.of_eq (owns_whole_eq c cc0_scratch1 g1).symm); iexists g1; isplitr; · (ipureintro; rfl)
    iexact HS1
  icases HS1 with ⟨R0, R1, R2⟩
  ihave HF := (Gh_known c false) $$ HF
  icases HF with ⟨HF, #KF0, #KF1, #KF2, #KFc⟩
  ihave HR := (Gh_known c true) $$ HR
  icases HR with ⟨HR, #KR0, #KR1, #KR2, #KRc⟩
  rw [owed_start]
  iapply (wp_signal_bar (KVof kB vB) K false c (Fin.ext (nx_dev _)) rfl rfl _ rfl) $$ [Ht0 F1 F2 HO]
  · isplitr; · iexact HC
    isplitl [Ht0]; · iexact Ht0
    isplitr; · iexact Hr0
    isplitl [F1 F2]
    · iapply (bar_give c false)
      isplitl [F1]; · iexact F1
      isplitl [F2]; · iexact F2
      isplitr; · iexact KF0
      isplitr; · iexact KF1
      isplitr; · iexact KF2
      iexact KRc
    iexact HO
  iintro HO
  iapply (wp_signal_bar (KVof kB vB) K true c (Fin.ext (nx_dev _)) rfl rfl _ rfl) $$ [Ht1 R1 R2 HO]
  · isplitr; · iexact HC
    isplitl [Ht1]; · iexact Ht1
    isplitr; · iexact Hr1
    isplitl [R1 R2]
    · iapply (bar_give c true)
      isplitl [R1]; · iexact R1
      isplitl [R2]; · iexact R2
      isplitr; · iexact KR0
      isplitr; · iexact KR1
      isplitr; · iexact KR2
      iexact KFc
    iexact HO
  iintro HO
  iapply (wp_wait_bar (KVof kB vB) K c (above_bar c) rfl rfl) $$ [HcB HaB HO]
  · isplitr; · iexact HC
    isplitl [HcB]; · iexact HcB
    isplitl [HaB] <;> iassumption
  iintro ⟨HaB, HbF, HbR, HO⟩
  unfold barPay
  icases HbF with ⟨NF1, NF2, -, #NFc⟩
  icases HbR with ⟨NR1, NR2, -, #NRc⟩
  iapply (wp_load 𝒱₀ (c : Thread nD τ) none Set.univ (m := Memref.whole cc0_stg3_0) (Finset.subset_univ _)) $$ Hk; iintro Hk
  rw [read_k]
  iapply (wp_load 𝒱₀ (c : Thread nD τ) none Set.univ (m := Memref.whole cc0_stg4_0) (Finset.subset_univ _)) $$ Hv; iintro Hv
  rw [read_v]
  iapply (wp_fill false c rfl (kB c) (vB c) (fill1 _) (fill2 _)) $$ F0
  iintro F0
  iapply (wp_fill true c rfl (kB c) (vB c) (fill1 _) (fill4 _)) $$ R0
  iintro R0
  unfold Gh
  icases HF with ⟨⟨Fa, -, Fw⟩, Fs, Ff, Fr, ⟨Ft, Fts⟩⟩
  icases HR with ⟨⟨Ra, -, Rw⟩, Rs, Rf, Rr, ⟨Rt, Rts⟩⟩
  iapply (wp_signal_credit (KVof kB vB) K false c 0 2 (.inl ⟨rfl, rfl⟩) (Fin.ext (nx_dev _)) rfl rfl _ rfl) $$ [Ft HO]
  · isplitr; · iexact HC
    isplitl [Ft]; · iexact Ft
    isplitr; · iexact NRc
    iexact HO
  iintro HO
  iapply (wp_signal_credit (KVof kB vB) K true c 0 2 (.inl ⟨rfl, rfl⟩) (Fin.ext (nx_dev _)) rfl rfl _ rfl) $$ [Rt HO]
  · isplitr; · iexact HC
    isplitl [Rt]; · iexact Rt
    isplitr; · iexact NFc
    iexact HO
  iintro HO
  ihave HF := (St_start c (KVof kB vB) false) $$ [Fa Fw Fs Ff Fr Fts F0 NF1 NF2]
  · isplitl [Fa Fw]; · isplitl [Fa] <;> iassumption
    isplitl [Fs]; · iexact Fs
    isplitl [Ff]; · iexact Ff
    isplitl [Fr]; · iexact Fr
    isplitl [Fts]; · iexact Fts
    isplitr; · iexact NRc
    isplitl [F0]; · iexact F0
    isplitl [NF1] <;> iassumption
  ihave HR := (St_start c (KVof kB vB) true) $$ [Ra Rw Rs Rf Rr Rts R0 NR1 NR2]
  · isplitl [Ra Rw]; · isplitl [Ra] <;> iassumption
    isplitl [Rs]; · iexact Rs
    isplitl [Rf]; · iexact Rf
    isplitl [Rr]; · iexact Rr
    isplitl [Rts]; · iexact Rts
    isplitr; · iexact NFc
    isplitl [R0]; · iexact R0
    isplitl [NR1] <;> iassumption
  iapply (wp_load 𝒱₀ (c : Thread nD τ) none Set.univ (m := Memref.whole cc0_stg2_0) (Finset.subset_univ _)) $$ Hq; iintro Hq
  rw [read_q]
  have e0 : (![0, 0, 0] : Fin 3 → ℕ) = off3 0 := rfl
  have e1 : (![1, 0, 0] : Fin 3 → ℕ) = off3 (0 + 1) := rfl
  ihave HF := (St_open (KVof kB vB) false 0 c) $$ HF
  icases HF with ⟨Fw, Fs, Ff, Fr, Fc, Fl, Fh, Fn, Fg, Fk⟩
  ihave HR := (St_open (KVof kB vB) true 0 c) $$ HR
  icases HR with ⟨Rw, Rs, Rf, Rr, Rc, Rl, Rh, Rn, Rg, Rk⟩
  iapply (wp_wait_credit (KVof kB vB) K false 0 c (show 0 < 16 by omega) (above_ow c 0 0 2 2 (by omega) (by omega) (by omega) (by omega)) rfl rfl) $$ [Fw HO]
  · isplitr; · iexact HC
    isplitl [Fw] <;> iassumption
  iintro ⟨Fw, HO⟩
  iapply (wp_send_hop (KVof kB vB) K false 0 c (show 0 < 16 by omega) (Fin.ext (nx_dev _)) (slot_of_off false _ _ _ e0) (slot_of_off false _ _ _ e1) rfl
    (rcv_of_off false (0 + 1) _ _ rfl) (ow (0 + 1) 0 2 2 c) (ow_a c _ _ _ _ (by omega))) $$ [Fs Ff Fl Fn Rg HO]
  · isplitr; · iexact HC
    isplitl [Fs]; · iexact Fs
    isplitl [Ff]; · iexact Ff
    isplitl [Fl]; · iexact Fl
    isplitl [Fn]; · iexact Fn
    isplitl [Rg]; · iexact Rg
    iexact HO
  iintro ⟨Fs, Ff, HO⟩
  iapply (wp_wait_credit (KVof kB vB) K true 0 c (show 0 < 15 by omega) (above_ow c 1 0 2 2 (by omega) (by omega) (by omega) (by omega)) rfl rfl) $$ [Rw HO]
  · isplitr; · iexact HC
    isplitl [Rw] <;> iassumption
  iintro ⟨Rw, HO⟩
  iapply (wp_send_hop (KVof kB vB) K true 0 c (show 0 < 15 by omega) (Fin.ext (nx_dev _)) (slot_of_off true _ _ _ e0) (slot_of_off true _ _ _ e1) rfl
    (rcv_of_off true (0 + 1) _ _ rfl) (ow (0 + 1) (0 + 1) 2 2 c) (ow_b c _ _ _ _ (by omega))) $$ [Rs Rf Rl Rn Fg HO]
  · isplitr; · iexact HC
    isplitl [Rs]; · iexact Rs
    isplitl [Rf]; · iexact Rf
    isplitl [Rl]; · iexact Rl
    isplitl [Rn]; · iexact Rn
    isplitl [Fg]; · iexact Fg
    iexact HO
  iintro ⟨Rs, Rf, HO⟩
  iapply (wp_load_slot false 0 c rfl _ e0) $$ Fh
  iintro Fh
  iapply (wp_wait_snd (KVof kB vB) K false 0 c (show 0 < 16 by omega) (above_ow c 1 1 2 2 (by omega) (by omega) (by omega) (by omega)) rfl
    ((congrArg (fun M => M.view.dmaCredit) (slot_of_off false 0 _ _ e0)).trans (credit_slot false _))) $$ [Fs HO]
  · isplitr; · iexact HC
    isplitl [Fs] <;> iassumption
  iintro ⟨Fs, Fl, HO⟩
  iapply (wp_wait_rcv (KVof kB vB) K false 0 c (show 0 < 16 by omega) (above_ow c 1 1 2 2 (by omega) (by omega) (by omega) (by omega))
    (rcv_of_off false (0 + 1) _ _ rfl)
    ((congrArg (fun M => M.view.dmaCredit) (slot_of_off false (0 + 1) _ _ e1)).trans (credit_slot false _))) $$ [Fr HO]
  · isplitr; · iexact HC
    isplitl [Fr] <;> iassumption
  iintro ⟨Fr, Fo, Fb, HO⟩
  iapply (wp_wait_snd (KVof kB vB) K true 0 c (show 0 < 15 by omega) (above_ow c 1 1 2 2 (by omega) (by omega) (by omega) (by omega)) rfl
    ((congrArg (fun M => M.view.dmaCredit) (slot_of_off true 0 _ _ e0)).trans (credit_slot true _))) $$ [Rs HO]
  · isplitr; · iexact HC
    isplitl [Rs] <;> iassumption
  iintro ⟨Rs, Rl, HO⟩
  iapply (wp_wait_rcv (KVof kB vB) K true 0 c (show 0 < 15 by omega) (above_ow c 1 1 2 2 (by omega) (by omega) (by omega) (by omega))
    (rcv_of_off true (0 + 1) _ _ rfl)
    ((congrArg (fun M => M.view.dmaCredit) (slot_of_off true (0 + 1) _ _ e1)).trans (credit_slot true _))) $$ [Rr HO]
  · isplitr; · iexact HC
    isplitl [Rr] <;> iassumption
  iintro ⟨Rr, Ro, Rb, HO⟩
  unfold crToks
  rw [bigSep_Ico_succ_bot (show 0 + 2 < H false from (by decide)), bigSep_Ico_succ_bot (show 0 + 2 < H true from (by decide))]
  icases Fc with ⟨⟨Ft, Fts⟩, -⟩
  icases Rc with ⟨⟨Rt, Rts⟩, -⟩
  iapply (wp_signal_credit (KVof kB vB) K false c 2 1 (.inr ⟨by decide, rfl⟩) (Fin.ext (nx_dev _)) rfl rfl (ow 1 1 3 2 c) (ow_e c _ _ _ _ (by omega))) $$ [Ft HO]
  · isplitr; · iexact HC
    isplitl [Ft]; · iexact Ft
    isplitr; · iexact NRc
    iexact HO
  iintro HO
  iapply (wp_signal_credit (KVof kB vB) K true c 2 1 (.inr ⟨by decide, rfl⟩) (Fin.ext (nx_dev _)) rfl rfl (ow 1 1 3 3 c) (ow_f c _ _ _ _ (by omega))) $$ [Rt HO]
  · isplitr; · iexact HC
    isplitl [Rt]; · iexact Rt
    isplitr; · iexact NFc
    iexact HO
  iintro HO
  ihave HF := (St_close (KVof kB vB) false 0 c) $$ [Fw Fs Ff Fr Fts Fo Fk Rb Fl Fh]
  · isplitl [Fw]; · iexact Fw
    isplitl [Fs]; · iexact Fs
    isplitl [Ff]; · iexact Ff
    isplitl [Fr]; · iexact Fr
    isplitl [Fts]
    · unfold crToks
      isplitl [Fts]; · iexact Fts
      iexact NRc
    isplitl [Fo]; · iexact Fo
    isplitl [Fk]; · iexact Fk
    isplitl [Rb]; · iexact Rb
    isplitl [Fl] <;> iassumption
  ihave HR := (St_close (KVof kB vB) true 0 c) $$ [Rw Rs Rf Rr Rts Ro Rk Fb Rl Rh]
  · isplitl [Rw]; · iexact Rw
    isplitl [Rs]; · iexact Rs
    isplitl [Rf]; · iexact Rf
    isplitl [Rr]; · iexact Rr
    isplitl [Rts]
    · unfold crToks
      isplitl [Rts]; · iexact Rts
      iexact NFc
    isplitl [Ro]; · iexact Ro
    isplitl [Rk]; · iexact Rk
    isplitl [Fb]; · iexact Fb
    isplitl [Rl] <;> iassumption
  iapply (Scf.wp_for_bind frame (wpE (defs₀ (F := F)) 𝒱₀ (c : Thread nD τ) none) Set.univ k0_t1_loop.lb k0_t1_loop.ub k0_t1_loop.st k0_t1_ok _ _
    (inv (KVof kB vB) K c (k0_pay15 q)) (fun t a => trip (KVof kB vB) K c (k0_pay15 q) t a _ _ _ _)) $$ [HF HR HO]
  · unfold inv
    isplitr; · iexact HC
    isplitr; · ipureintro; rfl
    isplitl [HF]; · iexact HF
    isplitl [HR]; · iexact HR
    iexact HO
  iintro %a HI
  unfold inv
  icases HI with ⟨-, %ha, HF, HR, HO⟩
  rw [show Scf.trips k0_t1_loop.lb k0_t1_loop.ub k0_t1_loop.st = 15 from trips_eq] at ha
  subst ha
  rw [show Scf.trips k0_t1_loop.lb k0_t1_loop.ub k0_t1_loop.st = 15 from trips_eq]
  rw [show min (15 + 1) 15 = 15 from rfl, ow_all c (15 + 1) (15 + 1) (15 + 3) (15 + 3) (by omega) (by omega) (by omega) (by omega)]
  ihave HF := (Entails.of_eq (St_eq (KVof kB vB) false (15 + 1) c)) $$ HF
  icases HF with ⟨Fw, Fs, Ff, Fr, Fc, Fo, Fx⟩
  dsimp only
  iapply (wp_load_slot false (15 + 1) c rfl _ (show (![1, 0, 0] : Fin 3 → ℕ) = off3 (15 + 1) from rfl)) $$ Fo
  iintro Fo
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0) (r := r0) (Mk := Finset.univ) (Finset.subset_univ _)) $$ Hout; iintro Hout
  rw [write_out, wp_ret]; imodintro
  iapply HK
  unfold bodyOut
  isplitl [HaB]; · iexact HaB
  isplitl [Fw Fs Ff Fr Fc Fo Fx]
  · iapply (Entails.of_eq (St_eq (KVof kB vB) false 16 c).symm)
    isplitl [Fw]; · iexact Fw
    isplitl [Fs]; · iexact Fs
    isplitl [Ff]; · iexact Ff
    isplitl [Fr]; · iexact Fr
    isplitl [Fc]; · iexact Fc
    isplitl [Fo] <;> iassumption
  isplitl [HR]; · iexact HR
  isplitl [HO]; · iexact HO
  isplitl [HT0]; · iexact HT0
  isplitl [HT1]; · iexact HT1
  isplitl [Hq]; · iexact Hq
  isplitl [Hk]; · iexact Hk
  isplitl [Hv]; · iexact Hv
  iexact Hout

end Cert.Ring
-- ==== Proof.Finish.lean ====
/-
  The end of the kernel's body: the cells are closed and the two three-slot buffers are whole again.
-/
module

public import proofs.«01_k».proof.Proof.Start

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (KV : Blocks F) (K : GSem nD τ sig → ℕ) (c : Dev nD)

/-- A cell at which nothing more is due is closed, its counter at zero. -/
theorem close_at {g : GSem nD τ sig} (hg : g ∈ cellsB ∪ cellsO) {R : ℕ} (hR : ∀ r, R ≤ r → (ringRd KV).duties g r = ∅) :
    (iprop(allInv KV K ∗ atPos ER g R ∅ 0) : sProp 𝕄) ⊢ iprop(|={Set.univ}=> semVal g 0) := by
  refine (sep_mono_left (inv_at KV K hg)).trans ?_
  exact Rounds.cell_close ER (ringRd KV) (Set.mem_univ _) (fun h => h) hR

/-- The slots a device holds after a direction's last hop are the whole buffer. -/
theorem slots_end (d : Bool) : (iprop(owns (c : Thread nD τ) (slot d (H d)) fullShare (blk KV d (H d) c) ∗ Nbr d (H d) c ∗ Ext d (H d) c) : sProp 𝕄)
    ⊢ iprop(∃ X, owns (c : Thread nD τ) (scrM d) fullShare X) := by
  have h0 : (owns (c : Thread nD τ) (slot d (H d)) fullShare (blk KV d (H d) c) : sProp 𝕄) ⊢ anySlot d (H d) c := by
    unfold anySlot; iintro H; iexists _; iexact H
  unfold Nbr Ext
  rw [if_neg (Nat.lt_irrefl _), if_neg (show H d ≠ 0 by cases d <;> decide)]
  refine (sep_mono_left h0).trans ?_
  refine BIBase.Entails.trans ?_ (whole_of_slots d c)
  unfold anySlot
  cases d
  · rw [show slot false (H false) = slot false 1 from slot_congr _ rfl, show slot false (H false + 1) = slot false 2 from slot_congr _ rfl,
      show slot false (H false + 2) = slot false 0 from slot_congr _ rfl]
    iintro ⟨H1, H2, H0⟩
    isplitl [H0]; · iexact H0
    isplitl [H1] <;> iassumption
  · rw [show slot true (H true) = slot true 0 from slot_congr _ rfl, show slot true (H true + 1) = slot true 1 from slot_congr _ rfl,
      show slot true (H true + 2) = slot true 2 from slot_congr _ rfl]

/-- The counters of one direction. -/
def sems (d : Bool) : sProp 𝕄 :=
  iprop(semVal (crC d c) 0 ∗ semVal (sndC d c) 0 ∗ semVal (rcvC d 0 c) 0 ∗ semVal (rcvC d 1 c) 0 ∗ semVal (rcvC d 2 c) 0)

theorem St_end (d : Bool) : (iprop(allInv KV K ∗ St KV d (H d) c) : sProp 𝕄)
    ⊢ iprop(|={Set.univ}=> (sems c d ∗ ∃ X, owns (c : Thread nD τ) (scrM d) fullShare X)) := by
  have hrcv : (iprop(allInv KV K ∗ rcvSt d (H d) c) : sProp 𝕄)
      ⊢ iprop(|={Set.univ}=> (semVal (rcvC d 0 c) 0 ∗ semVal (rcvC d 1 c) 0 ∗ semVal (rcvC d 2 c) 0)) := by
    unfold rcvSt posR
    iintro ⟨#Hi, ⟨H1, -⟩, ⟨H2, -⟩, ⟨H3, -⟩, -⟩
    imod (close_at KV K (mem_rcv d (H d + 1) c) (later_rcv KV d (H d + 1) c (H d / 3) (by cases d <;> decide))) $$ [H1] with H1
    · isplitr; · iexact Hi
      iexact H1
    imod (close_at KV K (mem_rcv d (H d + 2) c) (later_rcv KV d (H d + 2) c ((H d + 1) / 3) (by cases d <;> decide))) $$ [H2] with H2
    · isplitr; · iexact Hi
      iexact H2
    imod (close_at KV K (mem_rcv d (H d) c) (later_rcv KV d (H d) c ((H d + 2) / 3) (by cases d <;> decide))) $$ [H3] with H3
    · isplitr; · iexact Hi
      iexact H3
    imodintro
    cases d
    · rw [show rcvC false (H false + 1) c = rcvC false 2 c from rfl, show rcvC false (H false + 2) c = rcvC false 0 c from rfl,
        show rcvC false (H false) c = rcvC false 1 c from rfl]
      isplitl [H2]; · iexact H2
      isplitl [H3] <;> iassumption
    · rw [show rcvC true (H true + 1) c = rcvC true 1 c from rfl, show rcvC true (H true + 2) c = rcvC true 2 c from rfl,
        show rcvC true (H true) c = rcvC true 0 c from rfl]
      isplitl [H3]; · iexact H3
      isplitl [H1] <;> iassumption
  rw [St_eq]
  unfold crW sndSt sems
  rw [if_neg (Nat.lt_irrefl _)]
  iintro ⟨#Hi, ⟨Hc, -⟩, ⟨Hs, -⟩, -, Hr, -, HX⟩
  imod (close_at KV K (mem_cr d c) (later_cr KV d c)) $$ [Hc] with Hc
  · isplitr; · iexact Hi
    iexact Hc
  imod (close_at KV K (mem_snd d c) (later_snd KV d c)) $$ [Hs] with Hs
  · isplitr; · iexact Hi
    iexact Hs
  imod hrcv $$ [Hr] with Hr
  · isplitr; · iexact Hi
    iexact Hr
  imodintro
  isplitr [HX]
  · isplitl [Hc]; · iexact Hc
    isplitl [Hs] <;> iassumption
  · iapply (slots_end KV c d) $$ HX

theorem ownSems_eq : (Pipeline.ownSems0 osem c : sProp 𝕄) = iprop(sems c false ∗ sems c true) := by
  have h : (Pipeline.ownSems0 osem c : sProp 𝕄) = iprop(semVal (crC false c) 0 ∗ semVal (crC true c) 0 ∗ semVal (sndC false c) 0 ∗ semVal (sndC true c) 0
      ∗ semVal (rcvC false 0 c) 0 ∗ semVal (rcvC false 1 c) 0 ∗ semVal (rcvC false 2 c) 0
      ∗ semVal (rcvC true 0 c) 0 ∗ semVal (rcvC true 1 c) 0 ∗ semVal (rcvC true 2 c) 0) :=
    bigSep_univ_eq_bigSepL [(0 : Fin 10), 1, 2, 3, 4, 5, 6, 7, 8, 9] (by decide) (by decide) (fun k : Fin 10 => (semVal ((c : Thread nD τ), osem k) 0 : sProp 𝕄))
  rw [h]; unfold sems
  refine BI.Entails.antisymm (show _ ⊢ (_ : sProp 𝕄) from ?_) (show _ ⊢ (_ : sProp 𝕄) from ?_)
  · iintro ⟨H0, H1, H2, H3, H4, H5, H6, H7, H8, H9⟩
    isplitl [H0 H2 H4 H5 H6]
    · isplitl [H0]; · iexact H0
      isplitl [H2]; · iexact H2
      isplitl [H4]; · iexact H4
      isplitl [H5] <;> iassumption
    · isplitl [H1]; · iexact H1
      isplitl [H3]; · iexact H3
      isplitl [H7]; · iexact H7
      isplitl [H8] <;> iassumption
  · iintro ⟨⟨H0, H2, H4, H5, H6⟩, H1, H3, H7, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8] <;> iassumption

/-- What the device ends with: every counter of the region at zero, the barrier's too, and its two buffers whole. -/
theorem finish : (iprop(Ctx KV K ∗ atPos ER (barC c) 1 ∅ 0 ∗ St KV false 16 c ∗ St KV true 15 c) : sProp 𝕄)
    ⊢ iprop(|={Set.univ}=> (semVal (barC c) 0 ∗ Pipeline.ownSems0 osem c ∗ (∃ f, pt c cc0_scratch0 f) ∗ (∃ f, pt c cc0_scratch1 f))) := by
  rw [ownSems_eq]
  iintro ⟨⟨#Hi, -⟩, Hb, HF, HR⟩
  imod (close_at KV K (mem_bar c) (later_bar KV c)) $$ [Hb] with Hb
  · isplitr; · iexact Hi
    iexact Hb
  imod (St_end KV K c false) $$ [HF] with ⟨HF, %X, HX⟩
  · isplitr; · iexact Hi
    iexact HF
  imod (St_end KV K c true) $$ [HR] with ⟨HR, %Y, HY⟩
  · isplitr; · iexact Hi
    iexact HR
  imodintro
  isplitl [Hb]; · iexact Hb
  isplitl [HF HR]; · isplitl [HF] <;> iassumption
  isplitl [HX]
  · ihave H := (show (owns (c : Thread nD τ) (scrM false) fullShare X : sProp 𝕄) ⊢ _ from Entails.of_eq (owns_whole_eq c cc0_scratch0 X)) $$ HX
    icases H with ⟨%f, -, H⟩
    iexists f; iexact H
  · ihave H := (show (owns (c : Thread nD τ) (scrM true) fullShare Y : sProp 𝕄) ⊢ _ from Entails.of_eq (owns_whole_eq c cc0_scratch1 Y)) $$ HY
    icases H with ⟨%f, -, H⟩
    iexists f; iexact H

end Cert.Ring
-- ==== Proof.Region.lean ====
/-
  The kernel's one region: what each device brings to it and takes from it, and the kernel's body as the region's.
-/
module

public import proofs.«01_k».proof.Proof.Body
public import proofs.«01_k».proof.Proof.Finish
public import proofs.«01_k».proof.Proof.Gen.KernelIdeal.Frame

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
open Idealize.ShloMosaic.Pipeline (Dat Cfg Window BodyObligation)

variable (m : (ℓ : Loc nD τ sig) → Buf (Elt F) ℓ)

/-! ## The arrays -/

/-- The queries, keys and values a device is given. -/
def qB (c : Dev nD) : S2048x256.Idx → Elt F .bf16 := m ((c : Thread nD τ).loc main_arg0)
def kB (c : Dev nD) : S2048x256.Idx → Elt F .bf16 := m ((c : Thread nD τ).loc main_arg1)
def vB (c : Dev nD) : S2048x256.Idx → Elt F .bf16 := m ((c : Thread nD τ).loc main_arg2)

/-- The two tables as the region finds them. -/
abbrev tab0 (c : Dev nD) : S32.Idx → Elt F .i32 := V m c main_c
abbrev tab1 (c : Dev nD) : S32.Idx → Elt F .i32 := V m c main_c_0

/-- What a device's result holds at the end. -/
def outB (c : Dev nD) : S2048x256.Idx → Elt F .f32 := outOf (kB m) (vB m) c (qB m c)

theorem lit0_eq : ∀ x : Dev nD, lit0 x = wd (nx false x) := by decide +kernel
theorem lit1_eq : ∀ x : Dev nD, lit1 x = wd (nx true x) := by decide +kernel

theorem tab0_ok (c : Dev nD) : IsTab (F := F) false (tab0 m c) := by
  intro x i hi
  have h : tab0 m c = fun i => lit0 (S32.rowMajor i) := by
    show StableHlo.after hostOps0 (fun b => m (c, b)) (Proc.devRef .tc main_c) = _
    rw [StableHlo.after_cons, StableHlo.after_cons, StableHlo.after_nil]
    refine (StableHlo.nullary_result_ne (τ := τ) (y := main_c_0) _ _ _ (by decide)).trans ?_
    exact StableHlo.nullary_result main_c _ _ _
  rw [h, ← lit0_eq]
  refine congrArg lit0 (Fin.ext ?_)
  rw [← hi]
  exact Shape.rowMajor_val_one i
theorem tab1_ok (c : Dev nD) : IsTab (F := F) true (tab1 m c) := by
  intro x i hi
  have h : tab1 m c = fun i => lit1 (S32.rowMajor i) := by
    show StableHlo.after hostOps0 (fun b => m (c, b)) (Proc.devRef .tc main_c_0) = _
    rw [StableHlo.after_cons, StableHlo.after_cons, StableHlo.after_nil]
    exact StableHlo.nullary_result main_c_0 _ _ _
  rw [h, ← lit1_eq]
  refine congrArg lit1 (Fin.ext ?_)
  rw [← hi]
  exact Shape.rowMajor_val_one i

/-! ## What a device brings, before and after its cells are opened -/

/-- A direction's rights while its cells are not yet in use. -/
def Gd (d : Bool) (c : Dev nD) : sProp 𝕄 :=
  iprop((openTok ER (crC d c) ∗ openTok ER (sndC d c) ∗ openTok ER (rcvC d 0 c) ∗ openTok ER (rcvC d 1 c) ∗ openTok ER (rcvC d 2 c))
    ∗ (bigSep (Finset.Ico 0 (H d)) fun i => cred (tallyAt (crC d c) (ci i) 1))
    ∗ (bigSep (Finset.Ico 0 (H d)) fun i => dutyTok ER (sndC d c) i 0)
    ∗ fillToks d 0 c
    ∗ (bigSep (Finset.Ico 0 (H d)) fun i => cred (tallyAt (rcvC d (i + 1) c) i N))
    ∗ (dutyTok ER (crC d (pv d c)) 0 0 ∗ bigSep (Finset.Ico 2 (H d)) fun i => dutyTok ER (crC d (pv d c)) 0 i))

theorem open_at (KV : Blocks F) (K : GSem nD τ sig → ℕ) {g : GSem nD τ sig} (hg : g ∈ cellsB ∪ cellsO) :
    (iprop(allInv KV K ∗ openTok ER g ∗ semVal g 0) : sProp 𝕄) ⊢ iprop(|={Set.univ}=> (atPos ER g 0 ∅ 0 ∗ reached ER g 0)) := by
  refine (sep_mono_left (inv_at KV K hg)).trans ?_
  exact Rounds.cell_open ER (ringRd KV) (Set.mem_univ _)

/-- A direction's cells are opened. -/
theorem Gd_open (KV : Blocks F) (K : GSem nD τ sig → ℕ) (d : Bool) (c : Dev nD) :
    (iprop(allInv KV K ∗ Gd d c ∗ sems c d) : sProp 𝕄) ⊢ iprop(|={Set.univ}=> Gh d c) := by
  unfold Gd sems Gh
  iintro ⟨#Hi, ⟨⟨O1, O2, O3, O4, O5⟩, Hc, Hs, Hf, Hr, Ht⟩, S1, S2, S3, S4, S5⟩
  imod (open_at KV K (mem_cr d c)) $$ [O1 S1] with P1
  · isplitr; · iexact Hi
    isplitl [O1] <;> iassumption
  imod (open_at KV K (mem_snd d c)) $$ [O2 S2] with P2
  · isplitr; · iexact Hi
    isplitl [O2] <;> iassumption
  imod (open_at KV K (mem_rcv d 0 c)) $$ [O3 S3] with P3
  · isplitr; · iexact Hi
    isplitl [O3] <;> iassumption
  imod (open_at KV K (mem_rcv d 1 c)) $$ [O4 S4] with P4
  · isplitr; · iexact Hi
    isplitl [O4] <;> iassumption
  imod (open_at KV K (mem_rcv d 2 c)) $$ [O5 S5] with P5
  · isplitr; · iexact Hi
    isplitl [O5] <;> iassumption
  icases P1 with ⟨A1, R1⟩
  icases P2 with ⟨A2, R2⟩
  imodintro
  isplitl [A1 R1 Hc]
  · isplitl [A1]; · iexact A1
    isplitl [R1] <;> iassumption
  isplitl [A2 R2 Hs]
  · unfold sndSt
    isplitl [A2]; · iexact A2
    isplitl [R2] <;> iassumption
  isplitl [Hf]; · iexact Hf
  isplitr [Ht]
  · unfold rcvSt posR
    isplitl [P4]; · iexact P4
    isplitl [P5]; · iexact P5
    isplitl [P3] <;> iassumption
  · iexact Ht

/-- What a device holds of the exchange before the region, and once its cells are open. -/
def Tk (c : Dev nD) : sProp 𝕄 := iprop((∃ K, allInv (KVof (kB m) (vB m)) K) ∗ GhB c ∗ Gd false c ∗ Gd true c)
def Xk (c : Dev nD) : sProp 𝕄 := iprop((∃ K, Ctx (KVof (kB m) (vB m)) K) ∗ GhB c ∗ Gh false c ∗ Gh true c)
def Yk (c : Dev nD) : sProp 𝕄 := semVal (barC c) 0

theorem Tk_open (c : Dev nD) : (iprop(Tk m c ∗ Pipeline.ownSems0 osem c ∗ levAts L lv) : sProp 𝕄) ⊢ iprop(|={Set.univ}=> Xk m c) := by
  rw [ownSems_eq]
  unfold Tk Xk
  iintro ⟨⟨⟨%K, #Hi⟩, HB, HF, HR⟩, ⟨SF, SR⟩, #Hl⟩
  imod (Gd_open (KVof (kB m) (vB m)) K false c) $$ [HF SF] with HF
  · isplitr; · iexact Hi
    isplitl [HF] <;> iassumption
  imod (Gd_open (KVof (kB m) (vB m)) K true c) $$ [HR SR] with HR
  · isplitr; · iexact Hi
    isplitl [HR] <;> iassumption
  imodintro
  isplitr
  · iexists K; isplitr; · iexact Hi
    iexact Hl
  isplitl [HB]; · iexact HB
  isplitl [HF] <;> iassumption

/-! ## The region's proof data -/

/-- The two three-slot buffers, at contents not chosen. -/
def scr (c : Dev nD) : sProp 𝕄 := iprop((∃ f, pt c cc0_scratch0 f) ∗ (∃ f, pt c cc0_scratch1 f))

/-- What the body starts with and ends with, the staged blocks apart. -/
def Φ₀ (c : Dev nD) : sProp 𝕄 := iprop(Xk m c ∗ scr c ∗ ∃ r, prngReg c r)
def Φ₁ (c : Dev nD) : sProp 𝕄 := iprop(Yk c ∗ Pipeline.ownSems0 osem c ∗ scr c ∗ ∃ r, prngReg c r)

def dats (_ : Fin 1) (c : Dev nD) : Dat τ (Elt F) ℕ ℕ UU ℕ cfg0 c where
  A w := V m c (Pipeline.arrRef spec0 w)
  after w _ := match w with
    | ⟨0, _⟩ => tab0 m c
    | ⟨1, _⟩ => tab1 m c
    | ⟨2, _⟩ => qB m c
    | ⟨3, _⟩ => kB m c
    | ⟨4, _⟩ => vB m c
    | ⟨5, _⟩ => outB m c
  Φ t := match t with
    | ⟨0, _⟩ => Φ₀ m c
    | ⟨_ + 1, _⟩ => Φ₁ c
  q _ := fullShare
  owed t := match t with
    | ⟨0, _⟩ => owed₀ c
    | ⟨_ + 1, _⟩ => 0

theorem blk_0 (c : Dev nD) (f : Buf (Elt F) ((c : Thread nD τ).loc main_c)) : (win0_0.blk t0_0).view.read (Elt F) f = f :=
  Memref.read_access_unit_zero (Elt F) main_c
    (show (fun a => (win0_0.index t0_0) a * main_c.ty.shape.size a) = fun _ => 0 from
      funext fun a => by fin_cases a <;> decide) (fun a => by fin_cases a <;> decide) f
theorem blk_1 (c : Dev nD) (f : Buf (Elt F) ((c : Thread nD τ).loc main_c_0)) : (win0_1.blk t0_0).view.read (Elt F) f = f :=
  Memref.read_access_unit_zero (Elt F) main_c_0
    (show (fun a => (win0_1.index t0_0) a * main_c_0.ty.shape.size a) = fun _ => 0 from
      funext fun a => by fin_cases a <;> decide) (fun a => by fin_cases a <;> decide) f
theorem blk_2 (c : Dev nD) (f : Buf (Elt F) ((c : Thread nD τ).loc main_arg0)) : (win0_2.blk t0_0).view.read (Elt F) f = f :=
  Memref.read_access_unit_zero (Elt F) main_arg0
    (show (fun a => (win0_2.index t0_0) a * main_arg0.ty.shape.size a) = fun _ => 0 from
      funext fun a => by fin_cases a <;> decide) (fun a => by fin_cases a <;> decide) f
theorem blk_3 (c : Dev nD) (f : Buf (Elt F) ((c : Thread nD τ).loc main_arg1)) : (win0_3.blk t0_0).view.read (Elt F) f = f :=
  Memref.read_access_unit_zero (Elt F) main_arg1
    (show (fun a => (win0_3.index t0_0) a * main_arg1.ty.shape.size a) = fun _ => 0 from
      funext fun a => by fin_cases a <;> decide) (fun a => by fin_cases a <;> decide) f
theorem blk_4 (c : Dev nD) (f : Buf (Elt F) ((c : Thread nD τ).loc main_arg2)) : (win0_4.blk t0_0).view.read (Elt F) f = f :=
  Memref.read_access_unit_zero (Elt F) main_arg2
    (show (fun a => (win0_4.index t0_0) a * main_arg2.ty.shape.size a) = fun _ => 0 from
      funext fun a => by fin_cases a <;> decide) (fun a => by fin_cases a <;> decide) f
theorem blk_5 (c : Dev nD) (f : Buf (Elt F) ((c : Thread nD τ).loc main_v1)) : (win0_5.blk t0_0).view.read (Elt F) f = f :=
  Memref.read_access_unit_zero (Elt F) main_v1
    (show (fun a => (win0_5.index t0_0) a * main_v1.ty.shape.size a) = fun _ => 0 from
      funext fun a => by fin_cases a <;> decide) (fun a => by fin_cases a <;> decide) f

theorem before_0 (c : Dev nD) (d) : (dats m 0 c).before (0 : Fin 6) t0_0 d = tab0 m c := by
  unfold Dat.before; rw [if_pos (fetch0_0 t0_0)]
  exact blk_0 c (V m c main_c)
theorem before_1 (c : Dev nD) (d) : (dats m 0 c).before (1 : Fin 6) t0_0 d = tab1 m c := by
  unfold Dat.before; rw [if_pos (fetch0_1 t0_0)]
  exact blk_1 c (V m c main_c_0)
theorem before_2 (c : Dev nD) (d) : (dats m 0 c).before (2 : Fin 6) t0_0 d = qB m c := by
  unfold Dat.before; rw [if_pos (fetch0_2 t0_0)]
  exact (blk_2 c (V m c main_arg0)).trans (V_main_arg0 m c)
theorem before_3 (c : Dev nD) (d) : (dats m 0 c).before (3 : Fin 6) t0_0 d = kB m c := by
  unfold Dat.before; rw [if_pos (fetch0_3 t0_0)]
  exact (blk_3 c (V m c main_arg1)).trans (V_main_arg1 m c)
theorem before_4 (c : Dev nD) (d) : (dats m 0 c).before (4 : Fin 6) t0_0 d = vB m c := by
  unfold Dat.before; rw [if_pos (fetch0_4 t0_0)]
  exact (blk_4 c (V m c main_arg2)).trans (V_main_arg2 m c)

/-- A staging buffer holding given contents. -/
abbrev stg (c : Dev nD) (b : Ref sig .tc) (X : b.ty.Contents (Elt F)) : sProp 𝕄 :=
  iprop(∃ f : Buf (Elt F) ((c : Thread nD τ).loc b), ⌜f = X⌝ ∗ pt c b f)

def bodyPre (c : Dev nD) : sProp 𝕄 :=
  iprop(Φ₀ m c ∗ (dats m 0 c).owesAt 0 t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))
def bodyPost (c : Dev nD) : sProp 𝕄 :=
  iprop(Φ₁ (F := F) c ∗ (dats m 0 c).owesAt 0 t0_0.succ ∗ stg c cc0_stg0_0 (tab0 m c) ∗ stg c cc0_stg1_0 (tab1 m c)
    ∗ stg c cc0_stg2_0 (qB m c) ∗ stg c cc0_stg3_0 (kB m c) ∗ stg c cc0_stg4_0 (vB m c) ∗ stg c cc0_stg5_0 (outB m c))

set_option maxHeartbeats 2000000 in
/-- The region's body at its one point. -/
theorem body_point (c : Dev nD) :
    (bodyPre m c : sProp 𝕄) ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7)
      (fun _ => bodyPost m c) := by
  unfold bodyPre Φ₀ Xk scr Dat.owesAt Pipeline.owesWithin
  rw [show (dats m 0 c).owed t0_0.castSucc = owed₀ c from rfl]
  iintro ⟨⟨⟨⟨%K, #HC⟩, HB, HF, HR⟩, ⟨HS0, HS1⟩, Hp⟩, ⟨%W, -, HO⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, -, H5⟩⟩
  rw [before_0] at e0; rw [before_1] at e1; rw [before_2] at e2; rw [before_3] at e3; rw [before_4] at e4
  subst e0 e1 e2 e3 e4
  iapply wp_fupd
  iapply (body_run (kB m) (vB m) K c (tab0 m c) (tab1 m c) (tab0_ok m c) (tab1_ok m c) (qB m c) _)
  isplitr [Hp]
  · unfold bodyIn
    isplitr; · iexact HC
    isplitl [HB]; · iexact HB
    isplitl [HF]; · iexact HF
    isplitl [HR]; · iexact HR
    isplitl [HO]; · iexists W; iexact HO
    isplitl [H0]; · iexact H0
    isplitl [H1]; · iexact H1
    isplitl [H2]; · iexact H2
    isplitl [H3]; · iexact H3
    isplitl [H4]; · iexact H4
    isplitl [H5]; · iexists g5; iexact H5
    isplitl [HS0] <;> iassumption
  unfold bodyOut
  iintro ⟨Hb, SF, SR, ⟨%W', HO⟩, H0, H1, H2, H3, H4, H5⟩
  imod (finish (KVof (kB m) (vB m)) K c) $$ [Hb SF SR] with ⟨Hb, Hs, HS⟩
  · isplitr; · iexact HC
    isplitl [Hb]; · iexact Hb
    isplitl [SF] <;> iassumption
  imodintro
  unfold bodyPost Φ₁ Yk scr Dat.owesAt Pipeline.owesWithin
  rw [show (dats m 0 c).owed t0_0.succ = 0 from rfl]
  isplitl [Hb Hs HS Hp]
  · isplitl [Hb]; · iexact Hb
    isplitl [Hs]; · iexact Hs
    isplitl [HS] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 4000 in
/-- So the region's body does what the region's data say. -/
theorem body_obligation (c : Dev nD) : BodyObligation (dats (F := F) m 0 c) (defs₀ (F := F)) 𝒱₀ 0 Set.univ := fun t => by
  rw [fin_N0 t]
  rw [bigSep_W0, bigSep_W0]
  simp only [owns_whole_eq]
  exact body_point m c

end Cert.Ring
-- ==== Proof.Deal.lean ====
/-
  Dealing out the rights of the exchange: every duty's right goes to the device that performs it, and every device is
  credited for what the others owe it.
-/
module

public import proofs.«01_k».proof.Proof.Region

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families over unions and pairs -/

theorem union_all {I : Type} [DecidableEq I] {s t : Finset I} (h : Disjoint s t) {Φ : I → sProp 𝕄} :
    bigSep (s ∪ t) Φ = iprop(bigSep s Φ ∗ bigSep t Φ) := BI.bigSep_union h

theorem pairs_all {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rw [Finset.empty_product, bigSep_empty, bigSep_empty]
  | insert i s hi ih =>
    have e : (insert i s) ×ˢ t = t.map ⟨fun j => (i, j), fun _ _ h => congrArg Prod.snd h⟩ ∪ s ×ˢ t := by
      ext ⟨a, b⟩
      constructor
      · intro h
        obtain ⟨h, hb⟩ := Finset.mem_product.mp h
        rcases Finset.mem_insert.mp h with h | h
        · obtain rfl : a = i := h
          exact Finset.mem_union_left _ (Finset.mem_map.mpr ⟨b, hb, rfl⟩)
        · exact Finset.mem_union_right _ (Finset.mem_product.mpr ⟨h, hb⟩)
      · intro h
        rcases Finset.mem_union.mp h with h | h
        · obtain ⟨j, hj, e⟩ := Finset.mem_map.mp h
          cases e
          exact Finset.mem_product.mpr ⟨Finset.mem_insert_self _ _, hj⟩
        · exact Finset.mem_product.mpr ⟨Finset.mem_insert_of_mem (Finset.mem_product.mp h).1, (Finset.mem_product.mp h).2⟩
    have d : Disjoint (t.map ⟨fun j => (i, j), fun _ _ h => congrArg Prod.snd h⟩) (s ×ˢ t) := by
      rw [Finset.disjoint_left]
      rintro p hp hq
      obtain ⟨j, -, rfl⟩ := Finset.mem_map.mp hp
      exact hi (Finset.mem_product.mp hq).1
    rw [e, union_all d, bigSep_map, ih, bigSep_insert hi]
    rfl

/-! ## Credits -/

theorem fill_creds (d : Bool) (c : Dev nD) :
    (Pipeline.launchCred (fillOwed d 0) c : sProp 𝕄) ⊢ bigSep (Finset.Ico 0 (H d)) fun i => cred (tallyAt (rcvC d (i + 1) c) i N) := by
  have h : fillOwed d 0 = fun c' => ∑ i ∈ Finset.Ico 0 (H d), tallyAt (rcvC d (i + 1) (nx d c')) i N := rfl
  rw [h, Pipeline.launchCred_sum]
  exact bigSep_mono fun i _ => Pipeline.launchCred_tallyAt (.dma (rcvS d (i + 1))) (nx d) (pv d) (nx_pv d) (pv_nx d) i N c

theorem cr_creds (d : Bool) (c : Dev nD) :
    (Pipeline.launchCred (crOwed d 2) c : sProp 𝕄) ⊢ bigSep (Finset.Ico 2 (H d)) fun i => cred (tallyAt (crC d c) i 1) := by
  have h : crOwed d 2 = fun c' => ∑ i ∈ Finset.Ico 2 (H d), tallyAt (crC d (pv d c')) i 1 := rfl
  rw [h, Pipeline.launchCred_sum]
  exact bigSep_mono fun i _ => Pipeline.launchCred_tallyAt (.reg (crS d)) (pv d) (nx d) (pv_nx d) (nx_pv d) i 1 c

theorem cred_two (g : GSem nD τ sig) : (cred (tallyAt g 0 2) : sProp 𝕄) = iprop(cred (tallyAt g 0 1) ∗ cred (tallyAt g 0 1)) := by
  rw [show (tallyAt g 0 2 : CellTallies nD τ sig ℕ) = tallyAt g 0 1 + tallyAt g 0 1 from (tallyAt_add g 0 1 1).symm]
  exact BI.Entails.antisymm (cred_add _ _).1 (cred_add _ _).2

/-- The credits of a direction's credit cell, one a hop. -/
theorem cr_all (d : Bool) (c : Dev nD) :
    (iprop(cred (tallyAt (crC d c) 0 2) ∗ bigSep (Finset.Ico 2 (H d)) fun i => cred (tallyAt (crC d c) i 1)) : sProp 𝕄)
      ⊢ bigSep (Finset.Ico 0 (H d)) fun i => cred (tallyAt (crC d c) (ci i) 1) := by
  rw [bigSep_Ico_succ_bot (show 0 < H d by cases d <;> decide), bigSep_Ico_succ_bot (show 0 + 1 < H d by cases d <;> decide), cred_two]
  rw [show (bigSep (Finset.Ico (0 + 1 + 1) (H d)) fun i => (cred (tallyAt (crC d c) (ci i) 1) : sProp 𝕄))
      = bigSep (Finset.Ico 2 (H d)) fun i => cred (tallyAt (crC d c) i 1) from bigSep_congr fun i hi => by
    unfold ci; rw [if_neg (by have := (Finset.mem_Ico.mp hi).1; omega)]]
  iintro ⟨⟨H1, H2⟩, H3⟩
  isplitl [H1]; · iexact H1
  isplitl [H2]; · iexact H2
  iexact H3

/-- What a device is credited with at the start. -/
def credsOf (c : Dev nD) : sProp 𝕄 :=
  iprop(cred (tallyAt (barC c) 0 2)
    ∗ ((bigSep (Finset.Ico 0 (H false)) fun i => cred (tallyAt (crC false c) (ci i) 1))
      ∗ bigSep (Finset.Ico 0 (H false)) fun i => cred (tallyAt (rcvC false (i + 1) c) i N))
    ∗ ((bigSep (Finset.Ico 0 (H true)) fun i => cred (tallyAt (crC true c) (ci i) 1))
      ∗ bigSep (Finset.Ico 0 (H true)) fun i => cred (tallyAt (rcvC true (i + 1) c) i N)))

theorem creds (c : Dev nD) : (Pipeline.launchCred owed₀ c : sProp 𝕄) ⊢ credsOf c := by
  have h : owed₀ = fun c' : Dev nD => ((((((fillOwed false 0 c' + fillOwed true 0 c') + crOwed false 2 c') + crOwed true 2 c')
      + tallyAt (crC true (nx false c')) 0 2) + tallyAt (crC false (nx true c')) 0 2) + tallyAt (barC (nx false c')) 0 1)
      + tallyAt (barC (nx true c')) 0 1 := rfl
  rw [h, Pipeline.launchCred_add, Pipeline.launchCred_add, Pipeline.launchCred_add, Pipeline.launchCred_add, Pipeline.launchCred_add,
    Pipeline.launchCred_add, Pipeline.launchCred_add]
  have b0 : (Pipeline.launchCred (fun c' : Dev nD => tallyAt (barC (nx false c')) 0 1) c : sProp 𝕄) ⊢ cred (tallyAt (barC c) 0 1) :=
    Pipeline.launchCred_tallyAt (.reg barS) (nx false) (nx true) (nx_pv false) (pv_nx false) 0 1 c
  have b1 : (Pipeline.launchCred (fun c' : Dev nD => tallyAt (barC (nx true c')) 0 1) c : sProp 𝕄) ⊢ cred (tallyAt (barC c) 0 1) :=
    Pipeline.launchCred_tallyAt (.reg barS) (nx true) (nx false) (nx_pv true) (pv_nx true) 0 1 c
  have c0 : (Pipeline.launchCred (fun c' : Dev nD => tallyAt (crC true (nx false c')) 0 2) c : sProp 𝕄) ⊢ cred (tallyAt (crC true c) 0 2) :=
    Pipeline.launchCred_tallyAt (.reg (crS true)) (nx false) (nx true) (nx_pv false) (pv_nx false) 0 2 c
  have c1 : (Pipeline.launchCred (fun c' : Dev nD => tallyAt (crC false (nx true c')) 0 2) c : sProp 𝕄) ⊢ cred (tallyAt (crC false c) 0 2) :=
    Pipeline.launchCred_tallyAt (.reg (crS false)) (nx true) (nx false) (nx_pv true) (pv_nx true) 0 2 c
  unfold credsOf
  rw [cred_two (barC c)]
  iintro ⟨⟨⟨⟨⟨⟨⟨F0, F1⟩, R0⟩, R1⟩, C0⟩, C1⟩, B0⟩, B1⟩
  ihave B0 := b0 $$ B0
  ihave B1 := b1 $$ B1
  ihave C0 := c0 $$ C0
  ihave C1 := c1 $$ C1
  ihave F0 := (fill_creds false c) $$ F0
  ihave F1 := (fill_creds true c) $$ F1
  ihave R0 := (cr_creds false c) $$ R0
  ihave R1 := (cr_creds true c) $$ R1
  isplitl [B0 B1]; · isplitl [B0] <;> iassumption
  isplitl [C1 R0 F0]
  · isplitl [C1 R0]
    · iapply (cr_all false c); isplitl [C1] <;> iassumption
    · iexact F0
  · isplitl [C0 R1]
    · iapply (cr_all true c); isplitl [C0] <;> iassumption
    · iexact F1

/-! ## Duties -/

def barE : ℕ ↪ SemLoc sig × ℕ × ℕ := ⟨fun i => (.reg barS, 0, i), fun _ _ h => congrArg (fun t : SemLoc sig × ℕ × ℕ => t.2.2) h⟩
def crE (d : Bool) : ℕ ↪ SemLoc sig × ℕ × ℕ := ⟨fun i => (.reg (crS d), 0, i), fun _ _ h => congrArg (fun t : SemLoc sig × ℕ × ℕ => t.2.2) h⟩
def sndE (d : Bool) : ℕ ↪ SemLoc sig × ℕ × ℕ := ⟨fun i => (.dma (sndS d), i, 0), fun _ _ h => congrArg (fun t : SemLoc sig × ℕ × ℕ => t.2.1) h⟩
theorem rcvS_inj (d : Bool) (s t : Fin 3) (h : (cond d ![11, 12, 13] ![7, 8, 9] : Fin 3 → DmaSem sig) s = (cond d ![11, 12, 13] ![7, 8, 9] : Fin 3 → DmaSem sig) t) :
    s = t := by revert d s t; decide
def rcvE (d : Bool) : ℕ ↪ SemLoc sig × ℕ × ℕ := ⟨fun i => (.dma (rcvS d (i + 1)), i / 3, 0), fun i j h => by
  have h1 : i / 3 = j / 3 := congrArg (fun t : SemLoc sig × ℕ × ℕ => t.2.1) h
  have h2 : rcvS d (i + 1) = rcvS d (j + 1) := SemLoc.dma.inj (congrArg (fun t : SemLoc sig × ℕ × ℕ => t.1) h)
  have h3 : m3 (i + 1) = m3 (j + 1) := rcvS_inj d _ _ h2
  have h4 : (i + 1) % 3 = (j + 1) % 3 := congrArg Fin.val h3
  omega⟩

/-- One device's duties: the cell, the round, which. -/
def duties1 (d : Bool) : Finset (SemLoc sig × ℕ × ℕ) :=
  ((insert 0 (Finset.Ico 2 (H d))).map (crE d) ∪ (Finset.Ico 0 (H d)).map (sndE d)) ∪ (Finset.Ico 0 (H d)).map (rcvE d)
def dutySet : Finset (SemLoc sig × ℕ × ℕ) := ({0, 1} : Finset ℕ).map barE ∪ (duties1 false ∪ duties1 true)
/-- Every device's. -/
def tokE : Dev nD × (SemLoc sig × ℕ × ℕ) ↪ GSem nD τ sig × ℕ × ℕ :=
  ⟨fun p => (((p.1 : Thread nD τ), p.2.1), p.2.2), fun p p' h => by
    obtain ⟨a, b, e⟩ := p; obtain ⟨a', b', e'⟩ := p'
    have h1 : a = a' := congrArg (fun t : GSem nD τ sig × ℕ × ℕ => t.1.1.1) h
    have h2 : b = b' := congrArg (fun t : GSem nD τ sig × ℕ × ℕ => t.1.2) h
    have h3 : e = e' := congrArg (fun t : GSem nD τ sig × ℕ × ℕ => t.2) h
    rw [h1, h2, h3]⟩
def allToks : Finset (GSem nD τ sig × ℕ × ℕ) := ((Finset.univ : Finset (Dev nD)) ×ˢ dutySet).map tokE

theorem duties1_a (d : Bool) : Disjoint ((insert 0 (Finset.Ico 2 (H d))).map (crE d)) ((Finset.Ico 0 (H d)).map (sndE d)) := by
  cases d <;> decide +kernel
theorem duties1_b (d : Bool) : Disjoint ((insert 0 (Finset.Ico 2 (H d))).map (crE d) ∪ (Finset.Ico 0 (H d)).map (sndE d)) ((Finset.Ico 0 (H d)).map (rcvE d)) := by
  cases d <;> decide +kernel
theorem dutySet_a : Disjoint (duties1 false) (duties1 true) := by decide +kernel
theorem dutySet_b : Disjoint (({0, 1} : Finset ℕ).map barE) (duties1 false ∪ duties1 true) := by decide +kernel

/-- The rights to a device's own cells' duties, by kind. -/
def tB (e : Bool) (c : Dev nD) : sProp 𝕄 := dutyTok ER (barC c) 0 (bi e)
def tC (d : Bool) (c : Dev nD) : sProp 𝕄 := iprop(dutyTok ER (crC d c) 0 0 ∗ bigSep (Finset.Ico 2 (H d)) fun i => dutyTok ER (crC d c) 0 i)
def tS (d : Bool) (c : Dev nD) : sProp 𝕄 := bigSep (Finset.Ico 0 (H d)) fun i => dutyTok ER (sndC d c) i 0
def tR (d : Bool) (c : Dev nD) : sProp 𝕄 := bigSep (Finset.Ico 0 (H d)) fun i => dutyTok ER (rcvC d (i + 1) c) (i / 3) 0

theorem toks1 (d : Bool) (c : Dev nD) :
    bigSep (duties1 d) (fun x => (dutyTok ER ((c : Thread nD τ), x.1) x.2.1 x.2.2 : sProp 𝕄)) = iprop((tC d c ∗ tS d c) ∗ tR d c) := by
  unfold duties1
  rw [union_all (duties1_b d), union_all (duties1_a d), bigSep_map, bigSep_map, bigSep_map, bigSep_insert (by simp)]
  rfl

theorem toks_eq : bigSep allToks (fun x => (dutyTok ER x.1 x.2.1 x.2.2 : sProp 𝕄))
    = bigSep Finset.univ fun c : Dev nD => iprop((tB false c ∗ tB true c) ∗ ((tC false c ∗ tS false c) ∗ tR false c) ∗ ((tC true c ∗ tS true c) ∗ tR true c)) := by
  unfold allToks
  rw [bigSep_map, pairs_all]
  refine bigSep_congr fun c _ => ?_
  unfold dutySet
  rw [union_all dutySet_b, union_all dutySet_a, bigSep_map, bigSep_insert (by decide), bigSep_singleton]
  have h0 := toks1 (F := F) false c
  have h1 := toks1 (F := F) true c
  rw [← h0, ← h1]
  rfl

/-- Each right goes to the device whose duty it is. -/
theorem toks_around :
    (bigSep Finset.univ fun c : Dev nD => iprop((tB false c ∗ tB true c) ∗ ((tC false c ∗ tS false c) ∗ tR false c) ∗ ((tC true c ∗ tS true c) ∗ tR true c)) : sProp 𝕄)
      ⊢ bigSep Finset.univ fun c : Dev nD => iprop((tB false (pv false c) ∗ tB true (pv true c))
        ∗ ((tC false (pv false c) ∗ tS false c) ∗ tR false (nx false c)) ∗ ((tC true (pv true c) ∗ tS true c) ∗ tR true (nx true c))) := by
  simp only [bigSep_sep']
  rw [bigSep_univ_equiv (turn true) (tB (F := F) false), bigSep_univ_equiv (turn false) (tB (F := F) true),
    bigSep_univ_equiv (turn true) (tC (F := F) false), bigSep_univ_equiv (turn false) (tC (F := F) true),
    bigSep_univ_equiv (turn false) (tR (F := F) false), bigSep_univ_equiv (turn true) (tR (F := F) true)]
  exact BI.Entails.refl _

/-! ## What a device is dealt -/

/-- The rights to open a device's ten cells. -/
def opens (d : Bool) (c : Dev nD) : sProp 𝕄 :=
  iprop(openTok ER (crC d c) ∗ openTok ER (sndC d c) ∗ openTok ER (rcvC d 0 c) ∗ openTok ER (rcvC d 1 c) ∗ openTok ER (rcvC d 2 c))

theorem opens_of (c : Dev nD) : (bigSep Finset.univ fun k : Fin 10 => (openTok ER ((c : Thread nD τ), osem k) : sProp 𝕄)) ⊢ iprop(opens false c ∗ opens true c) := by
  rw [show (bigSep Finset.univ fun k : Fin 10 => (openTok ER ((c : Thread nD τ), osem k) : sProp 𝕄)) = iprop(openTok ER (crC false c) ∗ openTok ER (crC true c)
      ∗ openTok ER (sndC false c) ∗ openTok ER (sndC true c) ∗ openTok ER (rcvC false 0 c) ∗ openTok ER (rcvC false 1 c) ∗ openTok ER (rcvC false 2 c)
      ∗ openTok ER (rcvC true 0 c) ∗ openTok ER (rcvC true 1 c) ∗ openTok ER (rcvC true 2 c)) from
    bigSep_univ_eq_bigSepL [(0 : Fin 10), 1, 2, 3, 4, 5, 6, 7, 8, 9] (by decide) (by decide) (fun k : Fin 10 => (openTok ER ((c : Thread nD τ), osem k) : sProp 𝕄))]
  unfold opens
  iintro ⟨H0, H1, H2, H3, H4, H5, H6, H7, H8, H9⟩
  isplitl [H0 H2 H4 H5 H6]
  · isplitl [H0]; · iexact H0
    isplitl [H2]; · iexact H2
    isplitl [H4]; · iexact H4
    isplitl [H5] <;> iassumption
  · isplitl [H1]; · iexact H1
    isplitl [H3]; · iexact H3
    isplitl [H7]; · iexact H7
    isplitl [H8] <;> iassumption

/-- What all devices may know from the start. -/
def records (KV : Blocks F) (K : GSem nD τ sig → ℕ) : sProp 𝕄 := iprop(allInv KV K ∗ bigSep cellsB fun g => reached ER g 0)

instance records_persistent (KV : Blocks F) (K : GSem nD τ sig → ℕ) : BI.Persistent (records KV K) := by unfold records; infer_instance

/-- What one device is dealt of the rights. -/
def dealt (c : Dev nD) : sProp 𝕄 :=
  iprop(atPos ER (barC c) 0 ∅ 0 ∗ (opens false c ∗ opens true c)
    ∗ ((tB false (pv false c) ∗ tB true (pv true c))
        ∗ ((tC false (pv false c) ∗ tS false c) ∗ tR false (nx false c)) ∗ ((tC true (pv true c) ∗ tS true c) ∗ tR true (nx true c))))

/-- The rights and the credits are what a device brings to the region. -/
theorem Tk_intro (m : (ℓ : Loc nD τ sig) → Buf (Elt F) ℓ) (K : GSem nD τ sig → ℕ) (c : Dev nD) :
    (iprop(records (KVof (kB m) (vB m)) K ∗ dealt c ∗ credsOf c) : sProp 𝕄) ⊢ Tk m c := by
  have hr (x : Dev nD) : (bigSep cellsB fun g => (reached ER g 0 : sProp 𝕄)) ⊢ reached ER (barC x) 0 :=
    bigSep_elim (Finset.mem_image_of_mem _ (Finset.mem_univ x))
  have hr0 := hr (pv false c)
  have hr1 := hr (pv true c)
  unfold records dealt credsOf Tk GhB Gd opens tB tC tS
  rw [show tR (F := F) false (nx false c) = fillToks false 0 c from rfl, show tR (F := F) true (nx true c) = fillToks true 0 c from rfl]
  iintro ⟨⟨#Hi, #Hr⟩, ⟨Ha, ⟨OF, OT⟩, ⟨B0, B1⟩, ⟨⟨C0, S0⟩, R0⟩, ⟨C1, S1⟩, R1⟩, KB, ⟨K1, K2⟩, K3, K4⟩
  ihave #Hr0 := hr0 $$ Hr
  ihave #Hr1 := hr1 $$ Hr
  isplitr
  · iexists K; iexact Hi
  isplitl [KB Ha B0 B1]
  · isplitl [KB]; · iexact KB
    isplitl [Ha]; · iexact Ha
    isplitl [B0]
    · isplitl [B0]; · iexact B0
      iexact Hr0
    · isplitl [B1]; · iexact B1
      iexact Hr1
  isplitl [OF K1 S0 R0 K2 C0]
  · isplitl [OF]; · iexact OF
    isplitl [K1]; · iexact K1
    isplitl [S0]; · iexact S0
    isplitl [R0]; · iexact R0
    isplitl [K2]; · iexact K2
    iexact C0
  · isplitl [OT]; · iexact OT
    isplitl [K3]; · iexact K3
    isplitl [S1]; · iexact S1
    isplitl [R1]; · iexact R1
    isplitl [K4]; · iexact K4
    iexact C1

end Cert.Ring
-- ==== Proof.Run.lean ====
/-
  The whole of @main: its two host operations, its region, and the launch of the thirty-two devices.
-/
module

public import proofs.«01_k».proof.Proof.Deal

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The arrays held at each stage -/

abbrev adm : (p : Fin 1) → (pcfgs (F := F) p).Adm := fun p => (cfgs p).toPCfg_adm
abbrev pdats : (p : Fin 1) → (c : Dev nD) → Pipeline.Dat τ (Elt F) ℕ ℕ UU ℕ (Pipeline.pin (pcfgs (F := F)) adm p) c := dats m

/-- The references outside every region: the arguments, the two tables, the result. -/
def bufs : Finset (DevRef τ sig) := (StableHlo.tcRefs τ sig).filter fun b => ¬ b.isScoped
theorem bufs_arr : (Pipeline.arrRefs (τ := τ) spec0) = bufs := by decide

def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v1) (outB m c)

theorem V₂_res (c : Dev nD) : V₂ m c (Proc.devRef .tc main_v1) = outB m c := Function.update_self _ _ _
theorem V₂_ne (c : Dev nD) (b : DevRef τ sig) (h : b ≠ Proc.devRef .tc main_v1) : V₂ m c b = V₁ m c b := Function.update_of_ne h _ _

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscoped_sem (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

theorem held_six (c : Dev nD) (W : Valuation τ sig (Elt F)) : (StableHlo.held (c : Thread nD τ) bufs W : sProp 𝕄)
    = iprop(pt c main_c (W main_c) ∗ pt c main_c_0 (W main_c_0) ∗ pt c main_arg0 (W main_arg0) ∗ pt c main_arg1 (W main_arg1)
      ∗ pt c main_arg2 (W main_arg2) ∗ pt c main_v1 (W main_v1)) := by
  unfold StableHlo.held
  rw [bigSep_eq_bigSepL_of_eq [Proc.devRef .tc main_c, Proc.devRef .tc main_c_0, Proc.devRef .tc main_arg0, Proc.devRef .tc main_arg1,
    Proc.devRef .tc main_arg2, Proc.devRef .tc main_v1] (by decide) (by decide)]
  rfl

theorem held_none (c : Dev nD) (W : Valuation τ sig (Elt F)) : (StableHlo.held (c.tc : Thread nD τ) (∅ : Finset (DevRef τ sig)) W : sProp 𝕄) = BI.emp := by
  unfold StableHlo.held
  exact BI.bigSep_empty

/-! ## The host's segment -/

/-- What rides along beside the arrays. -/
def R (c : Dev nD) : sProp 𝕄 := iprop(Tk m c ∗ (∃ r, prngReg c r) ∗ ∃ W, owes (c : Thread nD τ) (owed₀ c) W)

theorem host_in : ∀ op ∈ (hostOps0 : List (HloOp τ sig (Elt F))), op.bufs ⊆ bufs := fun op h => by
  simp only [List.mem_cons, List.not_mem_nil, or_false] at h
  rcases h with rfl | rfl
  · show ({Proc.devRef .tc main_c} : Finset (DevRef τ sig)) ⊆ bufs; decide
  · show ({Proc.devRef .tc main_c_0} : Finset (DevRef τ sig)) ⊆ bufs; decide
theorem host_fresh : ∀ op ∈ (hostOps0 : List (HloOp τ sig (Elt F))), op.fresh = ∅ := fun op h => by
  simp only [List.mem_cons, List.not_mem_nil, or_false] at h
  rcases h with rfl | rfl <;> rfl

def seg0 : Pipeline.HostSeg (Name := ℕ) (U := UU) (pcfgs (F := F)) defs₀ 𝒱₀ L lv :=
  Pipeline.HostSeg.ofOps _ _ _ _ _ bufs hostOps0 host_in host_fresh (V₀ m) (R m)

/-! ## The region's -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem above_start (c : Dev nD) : Above 0 (owed₀ c) := by
  rw [owed_start]
  have h0 : Above 0 (ow 0 0 2 2 c + tallyAt (crC true (pv true c)) 0 2 + tallyAt (crC false (pv false c)) 0 2) := fun g i h =>
    ⟨(above_bar c g i h).1, Nat.lt_of_succ_lt (above_bar c g i h).2⟩
  refine (h0.add (Above.tally _ _ _ _ (by omega) ?_)).add (Above.tally _ _ _ _ (by omega) ?_)
  · rw [part_bar]; decide
  · rw [part_bar]; decide

theorem above_owed (c : Dev nD) (t : Fin (cfg0.N + 1)) : Above 0 ((dats m 0 c).owed t) := by
  obtain ⟨_ | n, h⟩ := t
  · exact above_start c
  · exact Above.zero 0

theorem stage_level : ∀ (w : Fin 6) (s : Fin (spec0 w).nbuf), lvOf (part (.dma ((spec0 w).sem s))) 0 ≤ 0 := by decide

theorem enter (c : Dev nD) : iprop(Pipeline.scopedRest (Pipeline.pin (pcfgs (F := F)) adm 0).spec c ∗ (∃ r, prngReg c r)
      ∗ StableHlo.held (c.tc : Thread nD τ) ∅ (V₁ m c) ∗ Xk m c)
    ⊢ (pdats m 0 c).Φ 0 := by
  rw [show (pdats m 0 c).Φ 0 = iprop(Xk m c ∗ scr c ∗ ∃ r, prngReg c r) from rfl]
  iintro ⟨Hs, Hp, -, HX⟩
  ihave Hs := (Entails.of_eq (scopedRest0_eq c)) $$ Hs
  unfold scr
  isplitl [HX]; · iexact HX
  isplitl [Hs]; · iexact Hs
  iexact Hp

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = iprop(Yk c ∗ Pipeline.ownSems0 osem c ∗ scr c ∗ ∃ r, prngReg c r) from rfl, held_none]
  unfold scr
  iintro ⟨Hy, Hos, Hs, Hp⟩
  isplitl [Hs]
  · iapply (Entails.of_eq (scopedRest0_eq c).symm) $$ Hs
  isplitl [Hp]; · iexact Hp
  isplitr; · iempintro
  isplitl [Hos] <;> iassumption

theorem arr_last (c : Dev nD) : (dats m 0 c).arrAt (5 : Fin 6) cfg0.N = outB m c := by
  have hw : ((cfg0.win (5 : Fin 6)).blk t0_0).view.read (Elt F) ((dats m 0 c).arrAt (5 : Fin 6) cfg0.N) = (dats m 0 c).flushed (5 : Fin 6) t0_0 := by
    rw [show cfg0.N = t0_0.val + 1 from rfl, (dats m 0 c).arrAt_succ (5 : Fin 6) t0_0, flush0_5, if_pos rfl]
    exact View.read_write_univ _ _
  refine (blk_5 c _).symm.trans (hw.trans ?_)
  show (cfg0.win 5).cut _ (outB m c) = _
  exact funext fun _ => rfl

theorem arr_ne : ∀ w : Fin 6, ¬w = 5 → (Proc.devRef .tc (Pipeline.arrRef spec0 w) : DevRef τ sig) ≠ Proc.devRef .tc main_v1 := by decide

theorem arr_end (c : Dev nD) (w : Fin 6) : (dats m 0 c).arrAt w cfg0.N = V₂ m c (Proc.devRef .tc (Pipeline.arrRef spec0 w)) := by
  by_cases h : w = 5
  · subst h; rw [arr_last]; exact (V₂_res m c).symm
  · have e : (dats m 0 c).arrAt w cfg0.N = V₁ m c (Proc.devRef .tc (Pipeline.arrRef spec0 w)) :=
      (dats m 0 c).arrAt_in w (by revert h; revert w; decide) _
    rw [e, V₂_ne]
    exact arr_ne w h

set_option backward.isDefEq.respectTransparency.types false in
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts spec0 osem)
    ∅ ∅ (Finset.Subset.refl _) kitP rfl (fun c => (body_obligation m c).loose)
    (fun _ => 0) owed₀ (fun c => (zero_add _).symm) (fun _ => rfl) (fun _ => rfl) (fun _ w => by unfold Pipeline.Dat.share; split <;> rfl)
    (V₁ m) (V₂ m) (fun _ b hb => absurd hb (by rw [Finset.sdiff_self]; exact Finset.notMem_empty b))
    (Tk m) Yk (Xk m) Yk (Tk_open m) (enter m) (leave m)
    (fun c => by iintro H; imodintro; iexact H)
    (fun _ => 0)
    ⟨fun c w s => by rw [L_tc]; decide, fun c w s => stage_level w s, fun c t g i h => above_owed m c t g i h⟩
    (fun _ => iprop(emp))
    (fun _ w => rfl) (fun c w => arr_end m c w)

theorem reg0_pre (c : Dev nD) : iprop(StableHlo.held (c : Thread nD τ) bufs (V₁ m c) ∗ R m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) ∅ (V₁ m c) ∗ emp) ∗ Tk m c ∗ ∃ Wd, owes (c : Thread nD τ) (0 + owed₀ c) Wd)
  rw [held_none, zero_add, bufs_arr]
  unfold R
  iintro ⟨Hh, HT, Hp, HO⟩
  isplitl [Hh]; · iexact Hh
  isplitl [Hp]; · iexact Hp
  isplitr
  · isplitr <;> iempintro
  isplitl [HT]; · iexact HT
  iexact HO

theorem reg0_post (c : Dev nD) : (reg0 m).post c
    ⊢ iprop(StableHlo.held (c : Thread nD τ) bufs (V₂ m c) ∗ (semVal (barC c) 0 ∗ ∃ W, owes (c : Thread nD τ) (0 : CellTallies nD τ sig ℕ) W)) := by
  show iprop(StableHlo.held (c.tc : Thread nD τ) (Pipeline.arrRefs (τ := τ) spec0) (V₂ m c) ∗ (∃ r, prngReg c r)
    ∗ (StableHlo.held (c.tc : Thread nD τ) ∅ (V₂ m c) ∗ emp) ∗ Yk c ∗ ∃ Wd, owes (c : Thread nD τ) (0 : CellTallies nD τ sig ℕ) Wd) ⊢ _
  rw [held_none, bufs_arr]
  unfold Yk
  iintro ⟨Hh, -, -, Hb, HO⟩
  isplitl [Hh]; · iexact Hh
  isplitl [Hb]; · iexact Hb
  iexact HO

def segs : List (Pipeline.Seg (pcfgs (F := F)) adm (pdats m) 0 defs₀ 𝒱₀ L lv) := [.host (seg0 m), .region (reg0 m)]

theorem main_eq (c : Dev nD) : main (F := F) c = Pipeline.Seg.run (segs m) :=
  main_segs adm (pdats m) 0 𝒱₀ L lv (seg0 m) (reg0 m) rfl c

/-! ## The launch -/

/-- The launch's ghost state: the staging cells' and the exchange's. -/
def u₀ : UU :=
  (initOf (Pipeline.cells (Pipeline.pin (pcfgs (F := F)) adm) cellOf_inj) (Pipeline.launchToks (Pipeline.pin (pcfgs (F := F)) adm) cellOf_inj),
    launchOf cellsB cellsO allToks)

/-- All of a resource on device 0. -/
def parked (X : sProp 𝕄) (c : Dev nD) : sProp 𝕄 := if c = 0 then X else iprop(emp)
theorem parked_all (X : sProp 𝕄) : bigSep Finset.univ (parked (F := F) X) = X := by
  rw [bigSep_univ_at _ 0, bigSep_congr (s := Finset.univ.erase 0) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp
def G : Dev nD → sProp 𝕄 := parked (BI.own (ER (launchOf cellsB cellsO allToks)))

theorem osem_inj : Function.Injective osem := by decide
theorem osem_ne_bar : ∀ k : Fin 10, osem k ≠ .reg barS := by decide
theorem cells_apart : Disjoint cellsB cellsO := by
  rw [Finset.disjoint_left]
  rintro g h₁ h₂
  obtain ⟨c, -, rfl⟩ := Finset.mem_image.mp h₁
  obtain ⟨ck, -, h⟩ := Finset.mem_image.mp h₂
  exact osem_ne_bar ck.2 (congrArg Prod.snd h)

theorem bars_all (Φ : GSem nD τ sig → sProp 𝕄) : bigSep cellsB Φ = bigSep Finset.univ fun c : Dev nD => Φ (barC c) :=
  bigSep_image_of_injOn (fun a _ b _ h => congrArg (fun g : GSem nD τ sig => g.1.1) h) Φ
theorem owns_all (Φ : GSem nD τ sig → sProp 𝕄) :
    bigSep cellsO Φ = bigSep Finset.univ fun c : Dev nD => bigSep Finset.univ fun k : Fin 10 => Φ ((c : Thread nD τ), osem k) :=
  (bigSep_image_of_injOn (fun a _ b _ h => Prod.ext (congrArg (fun g : GSem nD τ sig => g.1.1) h) (osem_inj (congrArg Prod.snd h))) Φ).trans
    (bigSep_univ_prod _)

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barC c) 0)

/-- What a device has at launch beside the exchange's rights. -/
def bundle (c : Dev nD) : sProp 𝕄 :=
  iprop(StableHlo.held (c : Thread nD τ) bufs (V₀ m c) ∗ credsOf c ∗ owes (c : Thread nD τ) (owed₀ c) ∅ ∗ ∃ r, prngReg c r)

theorem T₀_intro (K : GSem nD τ sig → ℕ) (c : Dev nD) : iprop(records (KVof (kB m) (vB m)) K ∗ (dealt c ∗ bundle m c)) ⊢ (T₀ m c : sProp 𝕄) := by
  unfold bundle T₀ R
  iintro ⟨#HR, Hd, Hh, Hc, HO, Hp⟩
  isplitl [Hh]; · iexact Hh
  isplitl [Hd Hc]
  · iapply (Tk_intro m K c)
    isplitr; · iexact HR
    isplitl [Hd] <;> iassumption
  isplitl [Hp]; · iexact Hp
  iexists ∅; iexact HO

/-- Every cell's invariant allocated, and everything dealt. -/
theorem init :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owed₀ c) ∅ ∗ Pipeline.launchCred owed₀ c ∗ prngReg c (ρ c) ∗ G c)
      ⊢ (iprop(bundle m c ∗ (semVal (barC c) 0 ∗ G c)) : sProp 𝕄) := by
    rw [show unscopedBufs c (fun b => m ((c : Thread nD τ).loc b)) = StableHlo.held (c : Thread nD τ) bufs (V₀ m c) from unscoped_held c (V₀ m c),
      unscoped_sem]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  iintro ⟨H, -⟩
  ihave H' := (show (bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c))
      ⊢ (bigSep Finset.univ fun c : Dev nD => iprop(bundle m c ∗ (semVal (barC c) 0 ∗ G c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf cellsB cellsO allToks)) from
    Entails.of_eq (parked_all (F := F) (BI.own (ER (launchOf cellsB cellsO allToks))))) $$ HG
  imod (Rounds.fund_launch ER (ringRd (KVof (kB m) (vB m))) cells_apart (fun g _ h => h) allToks) $$ [Hv Hu] with ⟨%κ, -, #Hinv, #Hr, Hat, Hopen, Htok⟩
  · isplitl [Hv]
    · iapply (Entails.of_eq (bars_all (F := F) fun g => semVal g 0).symm) $$ Hv
    · iexact Hu
  imodintro
  iapply (bigSep_with_persistent (R := records (KVof (kB m) (vB m)) κ) (Φ := fun c => iprop(dealt c ∗ bundle m c)) fun c _ => T₀_intro m κ c)
  isplitr
  · unfold records allInv
    isplitr; · iexact Hinv
    iexact Hr
  iapply (Entails.of_eq (bigSep_sep' _ _ _).symm)
  isplitr [HB]
  · unfold dealt
    iapply (Entails.of_eq (bigSep_sep' _ _ _).symm); isplitl [Hat]
    · iapply (Entails.of_eq (bars_all (F := F) fun g => atPos ER g 0 ∅ 0)) $$ Hat
    iapply (Entails.of_eq (bigSep_sep' _ _ _).symm); isplitl [Hopen]
    · iapply (show (bigSep cellsO fun g => (openTok ER g : sProp 𝕄)) ⊢ bigSep Finset.univ fun c : Dev nD => iprop(opens false c ∗ opens true c) from
        (Entails.of_eq (owns_all (F := F) fun g => openTok ER g)).trans (bigSep_mono fun c _ => opens_of c)) $$ Hopen
    iapply (toks_around (F := F))
    iapply (Entails.of_eq (toks_eq (F := F))) $$ Htok
  · iexact HB

theorem V₁_arg0 (c : Dev nD) : V₁ m c main_arg0 = m ((c : Thread nD τ).loc main_arg0) := V_main_arg0 m c
theorem V₁_arg1 (c : Dev nD) : V₁ m c main_arg1 = m ((c : Thread nD τ).loc main_arg1) := V_main_arg1 m c
theorem V₁_arg2 (c : Dev nD) : V₁ m c main_arg2 = m ((c : Thread nD τ).loc main_arg2) := V_main_arg2 m c

theorem one_counter : ∀ sm : SemLoc sig, sm.isScoped .tc = false → sm = .reg barS := by decide

set_option backward.isDefEq.respectTransparency.types false in
/-- From any memory with zero counters, every weakly fair execution of @main on the thirty-two devices terminates, and
    ends with the three arguments of each device as they were, its result holding `outB`, and every counter at zero. -/
theorem run_main : θ_run defs (onTc (τ := τ) (main (F := F))) (s₀ m ρ)
    (fun r => (∀ c : Dev nD, (r.2.mem ((c : Thread nD τ).loc main_arg0) = m ((c : Thread nD τ).loc main_arg0)
          ∧ r.2.mem ((c : Thread nD τ).loc main_arg1) = m ((c : Thread nD τ).loc main_arg1)
          ∧ r.2.mem ((c : Thread nD τ).loc main_arg2) = m ((c : Thread nD τ).loc main_arg2))
        ∧ r.2.mem ((c : Thread nD τ).loc main_v1) = outB m c) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owed₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [parked_all]; iexact HX)
    (T₀ := T₀ m) (Tₙ := Tₙ m)
    (hch := by
      refine ⟨fun c => .rfl, fun c => reg0_pre m c, fun c => (reg0_post m c).trans ?_⟩
      show iprop(StableHlo.held (c : Thread nD τ) bufs (V₂ m c)
          ∗ (semVal (barC c) 0 ∗ ∃ W, owes (c : Thread nD τ) (0 : CellTallies nD τ sig ℕ) W))
        ⊢ iprop(Tₙ m c ∗ ∃ W, owes (c : Thread nD τ) (0 : CellTallies nD τ sig ℕ) W)
      iintro ⟨Hh, Hb0, HO⟩
      isplitr [HO]
      · isplitl [Hh] <;> iassumption
      · iexact HO)
    (hinit := init m ρ)
    (QY := fun c s => (s.mem ((Memref.whole main_arg0).view.loc (c : Thread nD τ)) = V₂ m c main_arg0
        ∧ s.mem ((Memref.whole main_arg1).view.loc (c : Thread nD τ)) = V₂ m c main_arg1
        ∧ s.mem ((Memref.whole main_arg2).view.loc (c : Thread nD τ)) = V₂ m c main_arg2
        ∧ s.mem ((Memref.whole main_v1).view.loc (c : Thread nD τ)) = V₂ m c main_v1)
      ∧ s.sem (barC c) = 0)
    (hfin := fun c s' => by
      dsimp only [Tₙ]; rw [held_six]
      iintro ⟨⟨⟨-, -, H0, H1, H2, H3⟩, Hb0⟩, HSI⟩
      icombine HSI H0 gives %h0
      icombine HSI H1 gives %h1
      icombine HSI H2 gives %h2
      icombine HSI H3 gives %h3
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        rw [V₂_ne m c _ (by decide), V₁_arg0] at h0
        rw [V₂_ne m c _ (by decide), V₁_arg1] at h1
        rw [V₂_ne m c _ (by decide), V₁_arg2] at h2
        rw [V₂_res] at h3
        exact ⟨⟨h0, h1, h2⟩, h3⟩,
      sem_eq_zero hs fun c sm hsm => by
        obtain rfl := one_counter sm hsm
        exact (h c).2⟩)

end Cert.Ring
-- ==== Proof.Finite.lean ====
/-
  The precondition read: each device's queries and keys are real numbers.
-/
module

public import proofs.«01_k».proof.Pre_finite_qk_KernelIdeal
public import proofs.«01_k».proof.Pre_finite_qk_ReferenceIdeal
public import Idealize.ShloMosaic.Lib.Pointwise

@[expose] public section

noncomputable section

namespace Cert.Pre_finite_qk_KernelIdeal

open Idealize.ShloMosaic

theorem facts : Facts where
  bcast_S_S2048x256 := by decide
  reducesTo_S2048x256_S_d0_1 := by decide
  h_S_ := by decide

theorem andi_iff (a b : BitVec 1) : IntOp.andi a b = 1#1 ↔ a = 1#1 ∧ b = 1#1 := by revert a b; decide

/-- A fold by `and` that comes out one met ones only. -/
theorem fold_andi {J : Type} [Fintype J] (f : J → BitVec 1) (h : Finset.univ.fold IntOp.andi (1#1) f = 1#1) (j : J) : f j = 1#1 :=
  ((Finset.fold_op_rel_iff_and (op := IntOp.andi) (r := fun _ y => y = 1#1) (c := 1#1) (fun {_ y z} => andi_iff y z)).1 h).2 j (Finset.mem_univ j)

theorem bot_bf16 : Ideal.ofBits FTy.bf16 0xFF80#16 = ⊥ := by simp [Ideal.ofBits, Ideal.ieee]
theorem top_bf16 : Ideal.ofBits FTy.bf16 0x7F80#16 = ⊤ := by simp [Ideal.ofBits, Ideal.ieee]

theorem real_of_between {x : EReal}
    (h : IntOp.andi (BitVec.ofBool (decide (Ideal.ofBits FTy.bf16 0xFF80#16 < x))) (BitVec.ofBool (decide (x < Ideal.ofBits FTy.bf16 0x7F80#16))) = 1#1) :
    ∃ y : ℝ, x = y := by
  rw [andi_iff, bot_bf16, top_bf16] at h
  have h1 : ⊥ < x := by
    by_contra hc; have := h.1; rw [decide_eq_false hc] at this; exact absurd this (by decide)
  have h2 : x < ⊤ := by
    by_contra hc; have := h.2; rw [decide_eq_false hc] at this; exact absurd this (by decide)
  exact ⟨x.toReal, (EReal.coe_toReal h2.ne h1.ne').symm⟩

/-- Where the precondition is one, every query and every key is a real number. -/
theorem real_of_fn [Facts] (q k v : FVec Ideal S2048x256 .bf16) (h : fn q k v = fun _ => 1#1) (r : Fin 2048) (d : Fin 256) :
    (∃ y : ℝ, q (ix2 r d) = y) ∧ ∃ y : ℝ, k (ix2 r d) = y := by
  have h0 := congrFun h ix0
  pointwise [fn] at h0
  obtain ⟨hq, hk⟩ := (andi_iff _ _).1 h0
  have hq := fold_andi _ hq (r, d)
  have hk := fold_andi _ hk (r, d)
  exact ⟨real_of_between hq, real_of_between hk⟩

end Cert.Pre_finite_qk_KernelIdeal

namespace Cert.Pre_finite_qk_ReferenceIdeal

theorem facts : Facts where
  bcast_S_S65536x256 := by decide
  reducesTo_S65536x256_S_d0_1 := by decide
  h_S_ := by decide

end Cert.Pre_finite_qk_ReferenceIdeal

end
-- ==== Proof.KernelValue.lean ====
/-
  The kernel's result read at an index, at extended reals: one sum over the keys of all devices over another.
-/
module

public import proofs.«01_k».proof.Proof.Start
public import Idealize.ShloMosaic.Lib.Pointwise

@[expose] public section

noncomputable section

namespace Cert.KernelValue

open Cert.KernelIdeal Cert.KernelIdeal.Gen Cert.Ring
open Idealize.ShloMosaic
open scoped BigOperators

/-! ## One block -/

/-- The constant the scores are shifted by, at extended reals. -/
abbrev sh : EReal := Ideal.ofBits FTy.f32 0x40800000#32

/-- The weight of key `x` of a block for query row `r`. -/
def wt (q : FVec Ideal S2048x256 .bf16) (k : S2048x256.Idx → EReal) (r x : Fin 2048) : EReal :=
  Ideal.exp ((∑ d : Fin 256, q (ix2 r d) * k (ix2 x d)) - sh)

/-- The weights of a block, summed. -/
def den (q : FVec Ideal S2048x256 .bf16) (k : S2048x256.Idx → EReal) (r : Fin 2048) : EReal := ∑ x : Fin 2048, wt q k r x
/-- The values of a block, each times its weight, summed. -/
def num (q : FVec Ideal S2048x256 .bf16) (k v : S2048x256.Idx → EReal) (r : Fin 2048) (d : Fin 256) : EReal := ∑ x : Fin 2048, wt q k r x * v (ix2 x d)

variable (q : FVec Ideal S2048x256 .bf16) (k v : S2048x256.Idx → EReal)

/-- A loaded block, whose halves are the keys and the values. -/
abbrev X2 : S1x2048x512.Idx → Elt Ideal .bf16 := unsq (F := Ideal) (kv (F := Ideal) k v)

theorem X2_key (x : Fin 2048) (d : Fin 256) (h : d.val < 512) : X2 k v (ix3 (0 : Fin 1) x (⟨d.val, h⟩ : Fin 512)) = k (ix2 x d) := by
  pointwise [X2, unsq]
  unfold kv
  rw [dif_pos (show ((ix2 x (⟨d.val, h⟩ : Fin 512)) 1).val < 256 from d.isLt)]
  exact congrArg k (funext fun a => match a with | 0 => rfl | 1 => rfl)
theorem X2_val (x : Fin 2048) (d : Fin 256) (h : 256 + d.val < 512) : X2 k v (ix3 (0 : Fin 1) x (⟨256 + d.val, h⟩ : Fin 512)) = v (ix2 x d) := by
  pointwise [X2, unsq]
  unfold kv
  rw [dif_neg (show ¬((ix2 x (⟨256 + d.val, h⟩ : Fin 512)) 1).val < 256 from by show ¬(256 + d.val < 256); omega)]
  exact congrArg v (funext fun a => match a with | 0 => rfl | 1 => Fin.ext (Nat.add_sub_cancel_left 256 d.val))

theorem pay4_at (r : Fin 2048) : k0_pay4 (F := Ideal) q (X2 k v) (ix2 r (0 : Fin 1)) = den q k r := by
  pointwise [k0_pay4, k0_pay3, k0_pay2]
  simp only [X2_key, den, wt]
theorem pay5_at (r : Fin 2048) (d : Fin 256) : k0_pay5 (F := Ideal) q (X2 k v) (ix2 r d) = num q k v r d := by
  pointwise [k0_pay5, k0_pay3, k0_pay2]
  simp only [X2_key, X2_val, num, wt]
theorem pay18_at (r : Fin 2048) : k0_pay18 (F := Ideal) q (X2 k v) (ix2 r (0 : Fin 1)) = den q k r := by
  pointwise [k0_pay18, k0_pay17, k0_pay16]
  simp only [X2_key, den, wt]
theorem pay19_at (r : Fin 2048) (d : Fin 256) : k0_pay19 (F := Ideal) q (X2 k v) (ix2 r d) = num q k v r d := by
  pointwise [k0_pay19, k0_pay17, k0_pay16]
  simp only [X2_key, X2_val, num, wt]
theorem pay21_at (l o : FVec Ideal S2048x1 .f32) (r : Fin 2048) :
    k0_pay21 (F := Ideal) l o (k0_pay8 q (X2 k v)) four (ix2 r (0 : Fin 1)) = l (ix2 r (0 : Fin 1)) + o (ix2 r (0 : Fin 1)) + den q k r := by
  pointwise [k0_pay21, k0_pay20, k0_pay8, k0_pay6, four]
  simp only [X2_key, den, wt]
theorem pay22_at (a o : FVec Ideal S2048x256 .f32) (r : Fin 2048) (d : Fin 256) :
    k0_pay22 (F := Ideal) a o (k0_pay7 (X2 k v)) (k0_pay8 q (X2 k v)) four (ix2 r d) = a (ix2 r d) + o (ix2 r d) + num q k v r d := by
  pointwise [k0_pay22, k0_pay20, k0_pay8, k0_pay7, k0_pay6, four]
  simp only [X2_key, X2_val, num, wt]
theorem pay1_at (l : FVec Ideal S2048x1 .f32) (a : FVec Ideal S2048x256 .f32) (r : Fin 2048) (d : Fin 256) :
    k0_pay1 (F := Ideal) l a (k0_pay24 (X2 k v)) (k0_pay25 q (X2 k v)) four (ix2 r d)
      = Ideal.div (a (ix2 r d) + num q k v r d) (l (ix2 r (0 : Fin 1)) + den q k r) := by
  pointwise [k0_pay1, k0_pay24, k0_pay25, k0_pay23, four]
  simp only [X2_key, X2_val, num, den, wt]
theorem pay15_at (q : S2048x256.Idx → Elt Ideal .bf16) (r : Fin 2048) (d : Fin 256) :
    k0_pay15 (F := Ideal) q (ix2 r d) = q (ix2 r d) * Ideal.ofBits .bf16 0x3D80#16 := by
  pointwise [k0_pay15]

/-! ## All blocks -/

/-- What the blocks of `t` steps add up to: the own block, and one of each direction per step. -/
def tot (f : Dev nD → EReal) (c : Dev nD) (t : ℕ) : EReal :=
  (∑ h ∈ Finset.range (t + 1), f ((pv false)^[h] c)) + ∑ h ∈ Finset.range t, f ((pv true)^[h + 1] c)

theorem tot_zero (f : Dev nD → EReal) (c : Dev nD) : tot f c 0 = f c := by simp [tot]
theorem tot_succ (f : Dev nD → EReal) (c : Dev nD) (t : ℕ) :
    tot f c (t + 1) = tot f c t + f ((pv false)^[t + 1] c) + f ((pv true)^[t + 1] c) := by
  unfold tot; rw [Finset.sum_range_succ _ (t + 1), Finset.sum_range_succ (fun h => f ((pv true)^[h + 1] c)) t]; ac_rfl

/-- Where the blocks come from: sixteen steps back one way and fifteen the other. -/
def source (c : Dev nD) : Fin 17 ⊕ Fin 15 → Dev nD :=
  Sum.elim (fun h => (pv false)^[h.val] c) (fun h => (pv true)^[h.val + 1] c)

theorem source_bijective (c : Dev nD) : Function.Bijective (source c) := by
  refine (Fintype.bijective_iff_surjective_and_card _).2 ⟨fun e => ?_, by decide⟩
  have he : e ∈ (Finset.univ : Finset (Fin 17)).image (fun h => (pv false)^[h.val] c)
      ∪ (Finset.univ : Finset (Fin 15)).image (fun h => (pv true)^[h.val + 1] c) := by rw [sources_forward]; exact Finset.mem_univ e
  rcases Finset.mem_union.1 he with h | h
  · obtain ⟨x, -, hx⟩ := Finset.mem_image.1 h; exact ⟨.inl x, hx⟩
  · obtain ⟨x, -, hx⟩ := Finset.mem_image.1 h; exact ⟨.inr x, hx⟩

/-- After the last block every device's has been added once. -/
theorem tot_all (f : Dev nD → EReal) (c : Dev nD) : tot f c 15 + f ((pv false)^[16] c) = ∑ e : Dev nD, f e := by
  rw [← (source_bijective c).sum_comp f, Fintype.sum_sum_type]
  unfold tot source
  simp only [Sum.elim_inl, Sum.elim_inr]
  rw [Fin.sum_univ_eq_sum_range (fun h => f ((pv false)^[h] c)) 17, Fin.sum_univ_eq_sum_range (fun h => f ((pv true)^[h + 1] c)) 15,
    Finset.sum_range_succ _ 16]
  ac_rfl

variable (kB vB : Dev nD → S2048x256.Idx → Elt Ideal .bf16) (c : Dev nD)

theorem acc_den (qb : FVec Ideal S2048x256 .bf16) (r : Fin 2048) (t : ℕ) :
    (accAt (KVof kB vB) c qb t).1 (ix2 r (0 : Fin 1)) = tot (fun e => den qb (kB e) r) c t := by
  induction t with
  | zero => rw [tot_zero]; exact pay18_at qb (kB c) (vB c) r
  | succ t ih =>
    rw [tot_succ, ← ih]
    refine (pay21_at qb (kB ((pv true)^[t + 1] c)) (vB ((pv true)^[t + 1] c)) _ _ r).trans ?_
    exact congrArg (fun z => _ + z + _) (pay4_at qb (kB ((pv false)^[t + 1] c)) (vB ((pv false)^[t + 1] c)) r)

theorem acc_num (qb : FVec Ideal S2048x256 .bf16) (r : Fin 2048) (d : Fin 256) (t : ℕ) :
    (accAt (KVof kB vB) c qb t).2 (ix2 r d) = tot (fun e => num qb (kB e) (vB e) r d) c t := by
  induction t with
  | zero => rw [tot_zero]; exact pay19_at qb (kB c) (vB c) r d
  | succ t ih =>
    rw [tot_succ, ← ih]
    refine (pay22_at qb (kB ((pv true)^[t + 1] c)) (vB ((pv true)^[t + 1] c)) _ _ r d).trans ?_
    exact congrArg (fun z => _ + z + _) (pay5_at qb (kB ((pv false)^[t + 1] c)) (vB ((pv false)^[t + 1] c)) r d)

/-- The result of device `c` at row `r`, column `d`: the values of all devices, each times its weight, over all weights. -/
theorem outOf_at (q : S2048x256.Idx → Elt Ideal .bf16) (r : Fin 2048) (d : Fin 256) :
    outOf kB vB c q (ix2 r d)
      = Ideal.div (∑ e : Dev nD, num (k0_pay15 q) (kB e) (vB e) r d) (∑ e : Dev nD, den (k0_pay15 q) (kB e) r) := by
  rw [← tot_all (fun e => num (k0_pay15 q) (kB e) (vB e) r d) c, ← tot_all (fun e => den (k0_pay15 q) (kB e) r) c,
    ← acc_num, ← acc_den]
  exact pay1_at (k0_pay15 q) (kB ((pv false)^[16] c)) (vB ((pv false)^[16] c)) _ _ r d

end Cert.KernelValue

end
-- ==== Proof.RefValue.lean ====
/-
  The reference's result, read at one of its elements: a softmax of the scores against the values.
-/
module

public import proofs.«01_k».proof.Proof.Gen.ReferenceIdeal.Run
public import Idealize.ShloMosaic.Lib.Pointwise

@[expose] public section

noncomputable section

namespace Cert.RefValue

open Cert.ReferenceIdeal Cert.ReferenceIdeal.Gen Idealize.ShloMosaic
open scoped BigOperators

/-- The scores the reference takes. -/
def scores (q k : FVec Ideal S65536x256 .bf16) : FVec Ideal S65536x65536 .f32 :=
  Host.divf (Host.dotGeneral dot_S65536x256_S256x65536_S65536x65536_1_0_0_1_n_n none (extf .f32 q bitsLt_bf16_f32) (transpose S256x65536 [1, 0] (extf .f32 k bitsLt_bf16_f32) transposes_S65536x256_S256x65536_1_0)) (broadcastInDim S65536x65536 ![] bcast_S_S65536x65536 (Host.sqrt (constant S_ .f32 0x43800000#32)))

/-- The largest score of each row. -/
def tops (s : FVec Ideal S65536x65536 .f32) : FVec Ideal S65536 .f32 :=
  Host.reduce FloatOps.maximumf s (constant S_ .f32 0xFF800000#32) reducesTo_S65536x65536_S65536_d1 h_S_

/-- The exponentials of the scores less a number of each row. -/
def exps (s : FVec Ideal S65536x65536 .f32) (m : FVec Ideal S65536 .f32) : FVec Ideal S65536x65536 .f32 :=
  Host.exp (subf s (broadcastInDim S65536x65536 ![0, 1] bcast_S65536x1_S65536x65536_0_1 (broadcastInDim S65536x1 ![0] bcast_S65536_S65536x1_0 m)))

/-- The rows divided by their sums, against the values. -/
def mix (e : FVec Ideal S65536x65536 .f32) (v : FVec Ideal S65536x256 .bf16) : FVec Ideal S65536x256 .f32 :=
  Host.dotGeneral dot_S65536x65536_S65536x256_S65536x256_1_0_0_1_n_n none (Host.divf e (broadcastInDim S65536x65536 ![0, 1] bcast_S65536x1_S65536x65536_0_1 (broadcastInDim S65536x1 ![0] bcast_S65536_S65536x1_0 (Host.reduceAdd e (constant S_ .f32 0x00000000#32) reducesTo_S65536x65536_S65536_d1 h_S_)))) (extf .f32 v bitsLt_bf16_f32)

/-- The reference's result. -/
def result (q k v : FVec Ideal S65536x256 .bf16) : FVec Ideal S65536x256 .f32 :=
  mix (exps (scores q k) (tops (scores q k))) v

theorem scores_at (q k : FVec Ideal S65536x256 .bf16) (r x : Fin 65536) :
    scores q k (ix2 r x) = Ideal.div (∑ d : Fin 256, q (ix2 r d) * k (ix2 x d)) (Ideal.sqrt (Ideal.ofBits FTy.f32 0x43800000#32)) := by
  pointwise [scores]

theorem tops_at (s : FVec Ideal S65536x65536 .f32) (r : Fin 65536) :
    tops s (ix1 r) = Finset.univ.fold max (Ideal.ofBits FTy.f32 0xFF800000#32) (fun x : Fin 65536 => s (ix2 r x)) := by
  pointwise [tops]

theorem exps_at (s : FVec Ideal S65536x65536 .f32) (m : FVec Ideal S65536 .f32) (r x : Fin 65536) :
    exps s m (ix2 r x) = Ideal.exp (s (ix2 r x) - m (ix1 r)) := by
  pointwise [exps]

theorem mix_at (e : FVec Ideal S65536x65536 .f32) (v : FVec Ideal S65536x256 .bf16) (r : Fin 65536) (d : Fin 256) :
    mix e v (ix2 r d) = ∑ x : Fin 65536, Ideal.div (e (ix2 r x)) (∑ y : Fin 65536, e (ix2 r y)) * v (ix2 x d) := by
  pointwise [mix]

end Cert.RefValue

end
-- ==== Proof.Softmax.lean ====
/-
  The arithmetic: weights shifted by a constant and weights shifted by their maximum give the same weighted mean.
-/
module

public import Idealize.ShloMosaic.PureOps.Ideal

@[expose] public section

noncomputable section

namespace Cert.Softmax

open Idealize.ShloMosaic
open scoped BigOperators

variable {J : Type} [Fintype J]

/-- A real that is not negative goes under a sum of extended reals. -/
theorem sum_mul_real {r : ℝ} (hr : 0 ≤ r) (t : Finset J) (f : J → EReal) : (∑ j ∈ t, f j) * (r : EReal) = ∑ j ∈ t, f j * (r : EReal) := by
  classical
  induction t using Finset.induction_on with
  | empty => simp
  | insert a s ha ih =>
    rw [Finset.sum_insert ha, Finset.sum_insert ha, ← ih,
      EReal.right_distrib_of_nonneg_of_ne_top (EReal.coe_nonneg.2 hr) (EReal.coe_ne_top r)]

/-- A sum of reals is the same sum in the extended reals. -/
theorem coe_sum (t : Finset J) (f : J → ℝ) : ((∑ j ∈ t, f j : ℝ) : EReal) = ∑ j ∈ t, (f j : EReal) := by
  classical
  induction t using Finset.induction_on with
  | empty => simp
  | insert a s ha ih => rw [Finset.sum_insert ha, Finset.sum_insert ha, EReal.coe_add, ih]

theorem div_real (x : EReal) {y : ℝ} (hy : y ≠ 0) : Ideal.div x y = x * ((y⁻¹ : ℝ) : EReal) := by
  unfold Ideal.div
  rw [if_neg (fun h => hy (EReal.coe_eq_zero.1 h)), EReal.coe_inv]

theorem exp_sub (a b : ℝ) : Ideal.exp ((a : EReal) - (b : EReal)) = ((Real.exp (a - b) : ℝ) : EReal) := by
  rw [← EReal.coe_sub]; rfl

/-- Real scores `s`, any values `v`: the weighted mean with weights `exp (s - a)` is the sum of the values, each times its
    weight `exp (s - b)` over the sum of those weights. -/
theorem mean_shift [Nonempty J] (s : J → ℝ) (v : J → EReal) (a b : ℝ) :
    Ideal.div (∑ j, Ideal.exp ((s j : EReal) - a) * v j) (∑ j, Ideal.exp ((s j : EReal) - a))
      = ∑ j, Ideal.div (Ideal.exp ((s j : EReal) - b)) (∑ i, Ideal.exp ((s i : EReal) - b)) * v j := by
  have hpos : ∀ x : ℝ, 0 < ∑ j, Real.exp (s j - x) := fun x =>
    Finset.sum_pos (fun j _ => Real.exp_pos _) Finset.univ_nonempty
  simp only [exp_sub, ← coe_sum]
  rw [div_real _ (hpos a).ne', sum_mul_real (inv_nonneg.2 (hpos a).le)]
  refine Finset.sum_congr rfl fun j _ => ?_
  rw [div_real _ (hpos b).ne', mul_right_comm, ← EReal.coe_mul, ← EReal.coe_mul]
  congr 2
  have h : ∀ i, Real.exp (s i - b) = Real.exp (a - b) * Real.exp (s i - a) := fun i => by rw [← Real.exp_add]; congr 1; ring
  simp only [h, ← Finset.mul_sum]
  rw [mul_inv, mul_mul_mul_comm, mul_inv_cancel₀ (Real.exp_ne_zero _), one_mul]

/-- The largest of finitely many reals, folded from the bottom, is a real. -/
theorem fold_max_real (t : Finset J) (ht : t.Nonempty) (f : J → ℝ) : ∃ M : ℝ, t.fold max (⊥ : EReal) (fun j => (f j : EReal)) = M := by
  classical
  induction ht using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

end Cert.Softmax

end
-- ==== Proof.Meet.lean ====
/-
  The two results meet: each device's block of the reference's result is what the device computes.
-/
module

public import proofs.«01_k».proof.Proof.KernelValue
public import proofs.«01_k».proof.Proof.RefValue
public import proofs.«01_k».proof.Proof.Softmax
public import Idealize.ShloMosaic.Lib.LayoutAt
public import Idealize.ShloMosaic.Lib.IdealHost

@[expose] public section

noncomputable section

namespace Cert.Meet

open Idealize.ShloMosaic
open scoped BigOperators

/-! ## Constants -/

theorem four_real : (Ideal.ofBits FTy.f32 0x40800000#32) = ((4 : ℝ) : EReal) := by
  simp [Ideal.ofBits, Ideal.ieee, -EReal.coe_mul]; norm_num

theorem sqrt_real : Ideal.sqrt (Ideal.ofBits FTy.f32 0x43800000#32) = ((16 : ℝ) : EReal) := by
  have h : (Ideal.ofBits FTy.f32 0x43800000#32) = ((256 : ℝ) : EReal) := by
    simp [Ideal.ofBits, Ideal.ieee, -EReal.coe_mul]; norm_num
  rw [h]
  have h2 : Real.sqrt 256 = 16 := by
    rw [show (256 : ℝ) = 16 ^ 2 by norm_num]; exact Real.sqrt_sq (by norm_num)
  rw [← h2]
  exact if_neg (by norm_num)

theorem bot_f32 : Ideal.ofBits FTy.f32 0xFF800000#32 = ⊥ := by simp [Ideal.ofBits, Ideal.ieee]

/-! ## Rows of the whole arrays -/

/-- Row `x` of block `e` as a row of the whole array. -/
def row : Fin 32 × Fin 2048 ≃ Fin 65536 := finProdFinEquiv

theorem row_val (e : Fin 32) (x : Fin 2048) : (row (e, x)).val = x.val + 2048 * e.val := rfl

/-- A block read at an index is the whole array read at its row. -/
theorem block_at {α : Type} (X : (⟨2, ![65536, 256]⟩ : Shape).Idx → α) (h : Layout.Tiles ⟨2, ![2048, 256]⟩ ⟨2, ![65536, 256]⟩ 0 32)
    (e : Fin 32) (x : Fin 2048) (d : Fin 256) :
    Layout.block ⟨2, ![2048, 256]⟩ ⟨2, ![65536, 256]⟩ 0 32 e X h (ix2 x d) = X (ix2 (row (e, x)) d) := by
  refine congrArg X (funext fun b => Fin.ext ?_)
  match b with
  | ⟨0, _⟩ => exact ((Nat.add_comm _ _).trans (congrArg (x.val + ·) (Nat.mul_comm _ _)))
  | ⟨1, _⟩ => rfl

/-! ## The scores -/

/-- A sum of products of reals over a fixed real. -/
theorem score_ref (q k : Fin 256 → ℝ) :
    Ideal.div (∑ d, (q d : EReal) * (k d : EReal)) ((16 : ℝ) : EReal) = (((∑ d, q d * k d) * (16 : ℝ)⁻¹ : ℝ) : EReal) := by
  rw [Softmax.div_real _ (by norm_num), EReal.coe_mul, Softmax.coe_sum]
  simp only [EReal.coe_mul]

/-- The kernel scales the queries first: the same score. -/
theorem score_kernel (q k : Fin 256 → ℝ) :
    (∑ d, ((q d : EReal) * ((1 / 16 : ℝ) : EReal)) * (k d : EReal)) = (((∑ d, q d * k d) * (16 : ℝ)⁻¹ : ℝ) : EReal) := by
  rw [Finset.sum_mul, Softmax.coe_sum]
  refine Finset.sum_congr rfl fun d _ => ?_
  rw [← EReal.coe_mul, ← EReal.coe_mul]
  congr 1; ring

variable (Q K V : FVec Ideal Cert.ReferenceIdeal.S65536x256 .bf16)
variable (q k : Fin 65536 → Fin 256 → ℝ)

/-- The real score of two rows. -/
def score (r x : Fin 65536) : ℝ := (∑ d, q r d * k x d) * (16 : ℝ)⁻¹

theorem scores_real (hq : ∀ r d, Q (ix2 r d) = q r d) (hk : ∀ r d, K (ix2 r d) = k r d) (r x : Fin 65536) :
    RefValue.scores Q K (ix2 r x) = score q k r x := by
  rw [RefValue.scores_at, sqrt_real]
  simp only [hq, hk]
  exact score_ref (q r) (k x)

/-- The reference's result at an index, on real queries and keys, is the mean with weights shifted by any real. -/
theorem result_real (hq : ∀ r d, Q (ix2 r d) = q r d) (hk : ∀ r d, K (ix2 r d) = k r d) (a : ℝ) (r : Fin 65536) (d : Fin 256) :
    RefValue.result Q K V (ix2 r d)
      = Ideal.div (∑ x, Ideal.exp ((score q k r x : EReal) - a) * V (ix2 x d)) (∑ x, Ideal.exp ((score q k r x : EReal) - a)) := by
  haveI : Nonempty (Fin 65536) := ⟨r⟩
  obtain ⟨M, hM⟩ := Softmax.fold_max_real Finset.univ Finset.univ_nonempty (score q k r)
  have ht : RefValue.tops (RefValue.scores Q K) (ix1 r) = M := by
    rw [RefValue.tops_at, bot_f32]
    simp only [scores_real Q K q k hq hk]
    exact hM
  have he : ∀ x, RefValue.exps (RefValue.scores Q K) (RefValue.tops (RefValue.scores Q K)) (ix2 r x) = Ideal.exp ((score q k r x : EReal) - M) := by
    intro x
    rw [RefValue.exps_at, ht, scores_real Q K q k hq hk]
  unfold RefValue.result
  rw [RefValue.mix_at]
  simp only [he]
  exact (Softmax.mean_shift (score q k r) (fun x => V (ix2 x d)) a M).symm

variable (kB vB : Fin 32 → (⟨2, ![2048, 256]⟩ : Shape).Idx → EReal) (qc : (⟨2, ![2048, 256]⟩ : Shape).Idx → EReal) (c : Fin 32)

/-- A weight of the kernel, on real queries and keys. -/
theorem wt_real (hq : ∀ r d, qc (ix2 r d) = q (row (c, r)) d) (hk : ∀ e x d, kB e (ix2 x d) = k (row (e, x)) d)
    (e : Fin 32) (r x : Fin 2048) :
    KernelValue.wt (Cert.KernelIdeal.Gen.k0_pay15 qc) (kB e) r x = Ideal.exp ((score q k (row (c, r)) (row (e, x)) : EReal) - ((4 : ℝ) : EReal)) := by
  unfold KernelValue.wt KernelValue.sh
  rw [four_real]
  simp only [KernelValue.pay15_at, hq, hk, Ideal.ofBits_sixteenth_bf16]
  exact congrArg (fun z => Ideal.exp (z - _)) (score_kernel (q (row (c, r))) (k (row (e, x))))

/-- A sum over the rows of every block is a sum over the rows of the whole array. -/
theorem sum_rows (f : Fin 65536 → EReal) : ∑ e : Fin 32, ∑ x : Fin 2048, f (row (e, x)) = ∑ x, f x := by
  rw [← row.sum_comp f, Fintype.sum_prod_type]

/-- What a device computes, at an index. -/
theorem out_real (hq : ∀ r d, qc (ix2 r d) = q (row (c, r)) d) (hk : ∀ e x d, kB e (ix2 x d) = k (row (e, x)) d)
    (hv : ∀ e x d, vB e (ix2 x d) = V (ix2 (row (e, x)) d)) (r : Fin 2048) (d : Fin 256) :
    Cert.Ring.outOf (F := Ideal) kB vB c qc (ix2 r d)
      = Ideal.div (∑ x, Ideal.exp ((score q k (row (c, r)) x : EReal) - ((4 : ℝ) : EReal)) * V (ix2 x d))
          (∑ x, Ideal.exp ((score q k (row (c, r)) x : EReal) - ((4 : ℝ) : EReal))) := by
  rw [KernelValue.outOf_at, ← sum_rows, ← sum_rows (fun x => Ideal.exp ((score q k (row (c, r)) x : EReal) - ((4 : ℝ) : EReal)))]
  unfold KernelValue.num KernelValue.den
  simp only [wt_real q k kB qc c hq hk, hv]

/-- What a device computes from its blocks of real queries and keys and of any values is its block of the reference's result. -/
theorem out_eq (qB : Fin 32 → (⟨2, ![2048, 256]⟩ : Shape).Idx → EReal) (h : Layout.Tiles ⟨2, ![2048, 256]⟩ ⟨2, ![65536, 256]⟩ 0 32)
    (hQ : ∀ e, qB e = Layout.block ⟨2, ![2048, 256]⟩ ⟨2, ![65536, 256]⟩ 0 32 e Q h)
    (hK : ∀ e, kB e = Layout.block ⟨2, ![2048, 256]⟩ ⟨2, ![65536, 256]⟩ 0 32 e K h)
    (hV : ∀ e, vB e = Layout.block ⟨2, ![2048, 256]⟩ ⟨2, ![65536, 256]⟩ 0 32 e V h)
    (hr : ∀ e (x : Fin 2048) (d : Fin 256), (∃ y : ℝ, qB e (ix2 x d) = y) ∧ ∃ y : ℝ, kB e (ix2 x d) = y) :
    Cert.Ring.outOf (F := Ideal) kB vB c (qB c)
      = Layout.block ⟨2, ![2048, 256]⟩ ⟨2, ![65536, 256]⟩ 0 32 c (RefValue.result Q K V) h := by
  have hq : ∀ e (x : Fin 2048) (d : Fin 256), qB e (ix2 x d) = Q (ix2 (row (e, x)) d) := fun e x d => by rw [hQ]; exact block_at Q h e x d
  have hk : ∀ e (x : Fin 2048) (d : Fin 256), kB e (ix2 x d) = K (ix2 (row (e, x)) d) := fun e x d => by rw [hK]; exact block_at K h e x d
  have hv : ∀ e (x : Fin 2048) (d : Fin 256), vB e (ix2 x d) = V (ix2 (row (e, x)) d) := fun e x d => by rw [hV]; exact block_at V h e x d
  have hQr : ∀ (r : Fin 65536) (d : Fin 256), ∃ y : ℝ, Q (ix2 r d) = y := fun r d => by
    obtain ⟨⟨e, x⟩, rfl⟩ := row.surjective r
    rw [← hq]; exact (hr e x d).1
  have hKr : ∀ (r : Fin 65536) (d : Fin 256), ∃ y : ℝ, K (ix2 r d) = y := fun r d => by
    obtain ⟨⟨e, x⟩, rfl⟩ := row.surjective r
    rw [← hk]; exact (hr e x d).2
  choose q hq' using hQr
  choose k hk' using hKr
  funext i
  obtain ⟨r, d, rfl⟩ : ∃ (r : Fin 2048) (d : Fin 256), i = ix2 r d := ⟨i 0, i 1, eq_ix2 i⟩
  rw [block_at, result_real Q K V q k hq' hk' 4]
  exact out_real V q k kB vB (qB c) c (fun r d => (hq c r d).trans (hq' _ _)) (fun e x d => (hk e x d).trans (hk' _ _)) hv r d

end Cert.Meet

end
-- ==== Proof.lean ====
/-
  The certificate of the ring attention: the run of `Cert.Ring` (proof/Proof/Run.lean), read at each claim.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Finite
public import proofs.«01_k».proof.Proof.Meet

@[expose] public section

noncomputable section

namespace Cert.Proof

open Idealize.ShloMosaic Idealize.SL.Sem

/-- The two printings of the kernel's body are one function at words. -/
theorem body_words : @Cert.Kernel.cc0_body Bits _ Cert.Kernel.Gen.facts = @Cert.KernelIdeal.cc0_body Bits _ Cert.KernelIdeal.Gen.facts := rfl

/-- So are their tables of bodies: the one label there is runs the body, and no other thread runs anything. -/
theorem bodies_words : @Cert.Kernel.defs₀ Bits _ Cert.Kernel.Gen.facts = @Cert.KernelIdeal.defs₀ Bits _ Cert.KernelIdeal.Gen.facts := by
  funext p l a
  cases p with
  | tc =>
    obtain ⟨l, hl⟩ := l
    obtain _ | l := l
    · exact rfl
    · exact absurd hl (Nat.not_lt.2 (Nat.le_add_left _ _))
  | scScalar _ => exact rfl
  | scVector _ _ => exact rfl

/-- The windows and the grid of the two are the same. -/
theorem windows_words : @Cert.Kernel.pcfgs Bits Cert.Kernel.Gen.facts = @Cert.KernelIdeal.pcfgs Bits Cert.KernelIdeal.Gen.facts := rfl

/-- So the whole tables are. -/
theorem defs_words : @Cert.Kernel.defs Bits _ Cert.Kernel.Gen.facts = @Cert.KernelIdeal.defs Bits _ Cert.KernelIdeal.Gen.facts :=
  congrArg (Idealize.ShloMosaic.Pipeline.defs (@Cert.KernelIdeal.pcfgs Bits Cert.KernelIdeal.Gen.facts)) bodies_words

/-- The program of the first printing runs as the other does. -/
theorem run_words (m : (ℓ : Loc Cert.KernelIdeal.nD Cert.KernelIdeal.τ Cert.KernelIdeal.sig) → Buf (Elt Bits) ℓ) (ρ : Dev Cert.KernelIdeal.nD → PrngReg) :
    ∀ D, D = Cert.KernelIdeal.defs (F := Bits) → θ_run D (onTc (τ := Cert.KernelIdeal.τ) (Cert.KernelIdeal.main (F := Bits))) ⟨m, fun _ => 0, ρ⟩
      (fun r => (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) ∧ r.2.sem = fun _ => 0) := by
  rintro D rfl
  exact (θ_run Cert.KernelIdeal.defs _ _).mono (fun _ h => ⟨fun c => (h.1 c).1, h.2⟩) (Cert.Ring.run_main (F := Bits) m ρ)

/-- The kernel at words: the run, values dropped. -/
theorem frame_kernel : Cert.quiescent_Kernel := fun m ρ _ => run_words m ρ _ defs_words

/-- The kernel at extended reals: the same run. -/
theorem frame_ideal : Cert.quiescent_KernelIdeal := fun m ρ _ =>
  (θ_run Cert.KernelIdeal.defs _ _).mono (fun _ h => ⟨fun c => (h.1 c).1, h.2⟩) (Cert.Ring.run_main (F := Ideal) m ρ)

/-- The reference: its host operations leave the arguments as they were, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's run, its result named. -/
theorem run_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v17)
          = Cert.RefValue.result (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  Cert.ReferenceIdeal.Value.run (F := Ideal) m ρ

/-- On blocks of real queries and keys every device ends with its block of the reference's result. -/
theorem algebraic : Cert.algebraic_KernelIdeal_ReferenceIdeal_pre_finite_qk_KernelIdeal (hPre_finite_qk_KernelIdeal := Cert.Pre_finite_qk_KernelIdeal.facts) := by
  intro m g m' g' hpre hin
  refine ⟨Cert.RefValue.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r h c => ⟨(h.1 c).2.trans ?_, (h.1 c).1⟩) (Cert.Ring.run_main (F := Ideal) m g)
    exact Cert.Meet.out_eq _ _ _ (Cert.Ring.kB m) (Cert.Ring.vB m) c (Cert.Ring.qB m) (by decide) (fun e => (hin e).1) (fun e => (hin e).2.1)
      (fun e => (hin e).2.2)
      (fun e x d => @Cert.Pre_finite_qk_KernelIdeal.real_of_fn Cert.Pre_finite_qk_KernelIdeal.facts _ _ _ (hpre e) x d)
  · exact (θ_run Cert.ReferenceIdeal.defs _ _).mono (fun r h => h 0) (run_reference m' g')

/-- Everything claimed. -/
theorem claim : Cert.Claim :=
  ⟨Cert.Kernel.Gen.facts, Cert.KernelIdeal.Gen.facts, Cert.ReferenceIdeal.Gen.facts, Cert.Pre_finite_qk_KernelIdeal.facts,
    Cert.Pre_finite_qk_ReferenceIdeal.facts, frame_kernel, frame_ideal, fun m ρ _ => frame_ideal m ρ trivial, frame_reference,
    fun m ρ _ => frame_reference m ρ trivial, trivial, algebraic⟩

end Cert.Proof

end
